-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_drawn [hPre_as_drawn : Cert.Pre_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_drawn [hPre_as_drawn : Cert.Pre_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_as_drawn [hKernelIdeal : Cert.KernelIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_as_drawn [hReferenceIdeal : Cert.ReferenceIdeal.Facts] [hPre_as_drawn : Cert.Pre_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_as_drawn [hKernelIdeal : Cert.KernelIdeal.Facts] [hReferenceIdeal : Cert.ReferenceIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_as_drawn : Cert.Pre_as_drawn.Facts),
    quiescent_Kernel (hKernel := hKernel)
    ∧ quiescent_KernelIdeal (hKernelIdeal := hKernelIdeal)
    ∧ quiescent_KernelIdeal_pre_as_drawn (hKernelIdeal := hKernelIdeal) (hPre_as_drawn := hPre_as_drawn)
    ∧ quiescent_ReferenceIdeal (hReferenceIdeal := hReferenceIdeal)
    ∧ quiescent_ReferenceIdeal_pre_as_drawn (hReferenceIdeal := hReferenceIdeal) (hPre_as_drawn := hPre_as_drawn)
    ∧ preserves_Kernel_KernelIdeal
    ∧ algebraic_KernelIdeal_ReferenceIdeal_pre_as_drawn (hKernelIdeal := hKernelIdeal) (hReferenceIdeal := hReferenceIdeal) (hPre_as_drawn := hPre_as_drawn)
-- ==== Pre_as_drawn.lean ====
abbrev S2x64x4096 : Shape := ⟨3, ![2, 64, 4096]⟩
abbrev S2x4096 : Shape := ⟨2, ![2, 4096]⟩
abbrev S4096x64 : Shape := ⟨2, ![4096, 64]⟩
abbrev S4096 : Shape := ⟨1, ![4096]⟩
abbrev S_ : Shape := ⟨0, ![]⟩

class Facts : Prop where
  bcast_S_S2x4096 : S_.BroadcastsInDim S2x4096 (![] : Fin 0 → Fin S2x4096.rank)
  reducesTo_S2x4096_S_d0_1 : S2x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x64x4096 .f32) (main_arg1 : IVec S2x4096 32) (main_arg2 : FVec F S4096x64 .f32) (main_arg3 : FVec F S4096x64 .f32) (main_arg4 : FVec F S4096 .f32) : IVec S_ 1 :=
  let main_c : IVec S_ 32 := constantI S_ 32 0#32
  let main_v0 : IVec S2x4096 32 := broadcastInDim S2x4096 ![] bcast_S_S2x4096 main_c
  let main_v1 : IVec S2x4096 1 := cmpi .sge main_arg1 main_v0
  let main_c_0 : IVec S_ 32 := constantI S_ 32 4096#32
  let main_v2 : IVec S2x4096 32 := broadcastInDim S2x4096 ![] bcast_S_S2x4096 main_c_0
  let main_v3 : IVec S2x4096 1 := cmpi .slt main_arg1 main_v2
  let main_v4 : IVec S2x4096 1 := andi main_v1 main_v3
  let main_c_1 : IVec S_ 1 := constantI S_ 1 1#1
  let main_v5 : IVec S_ 1 := (fun x v => Host.reduce IntOp.andi x v reducesTo_S2x4096_S_d0_1 h_S_) main_v4 main_c_1
  let main_cst : FVec F S_ .f32 := constant S_ .f32 0x00000000#32
  let main_v6 : FVec F S4096 .f32 := broadcastInDim S4096 ![] bcast_S_S4096 main_cst
  let main_v7 : IVec S4096 1 := cmpf .oeq main_arg4 main_v6
  let main_c_2 : IVec S_ 1 := constantI S_ 1 1#1
  let main_v8 : IVec S_ 1 := (fun x v => Host.reduce IntOp.andi x v reducesTo_S4096_S_d0 h_S_) main_v7 main_c_2
  let main_v9 : IVec S_ 1 := andi main_v5 main_v8
  main_v9
-- ==== Kernel.lean ====
abbrev S2x64x4096 : Shape := ⟨3, ![2, 64, 4096]⟩
abbrev S2x4096 : Shape := ⟨2, ![2, 4096]⟩
abbrev S4096x64 : Shape := ⟨2, ![4096, 64]⟩
abbrev S4096 : Shape := ⟨1, ![4096]⟩
abbrev S8192x1 : Shape := ⟨2, ![8192, 1]⟩
abbrev S1x1 : Shape := ⟨2, ![1, 1]⟩
abbrev S1x64x2048 : Shape := ⟨3, ![1, 64, 2048]⟩
abbrev S2048x1 : Shape := ⟨2, ![2048, 1]⟩
abbrev S64x2048 : Shape := ⟨2, ![64, 2048]⟩
abbrev S2048x4096 : Shape := ⟨2, ![2048, 4096]⟩
abbrev S2048 : Shape := ⟨1, ![2048]⟩
abbrev S1x2048x1 : Shape := ⟨3, ![1, 2048, 1]⟩
abbrev S1 : Shape := ⟨1, ![1]⟩
abbrev S1x1x1 : Shape := ⟨3, ![1, 1, 1]⟩
abbrev S_ : Shape := ⟨0, ![]⟩

abbrev nBuf : Space → Nat
  | .hbm => 14
  | .vmem => 9
  | .smem => 0
  | _ => 0

abbrev bufTy : (tb : Table) → Fin (tcTables nBuf tb) → BufTy
  | .hbm, ⟨0, _⟩ => ⟨S2x64x4096, .f32⟩
  | .hbm, ⟨1, _⟩ => ⟨S2x4096, .i32⟩
  | .hbm, ⟨2, _⟩ => ⟨S4096x64, .f32⟩
  | .hbm, ⟨3, _⟩ => ⟨S4096x64, .f32⟩
  | .hbm, ⟨4, _⟩ => ⟨S4096, .f32⟩
  | .hbm, ⟨5, _⟩ => ⟨S8192x1, .i32⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x64x2048, .f32⟩
  | .local _ .vmem, ⟨1, _⟩ => ⟨S1x64x2048, .f32⟩
  | .local _ .vmem, ⟨2, _⟩ => ⟨S4096x64, .f32⟩
  | .local _ .vmem, ⟨3, _⟩ => ⟨S2048x1, .i32⟩
  | .local _ .vmem, ⟨4, _⟩ => ⟨S2048x1, .i32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | _, _ => ⟨S2x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2x64x4096 : Shape := ⟨3, ![2, 64, 4096]⟩
abbrev S2x4096 : Shape := ⟨2, ![2, 4096]⟩
abbrev S4096x64 : Shape := ⟨2, ![4096, 64]⟩
abbrev S4096 : Shape := ⟨1, ![4096]⟩
abbrev S2x4096x64 : Shape := ⟨3, ![2, 4096, 64]⟩
abbrev S2x4096x4096 : Shape := ⟨3, ![2, 4096, 4096]⟩
abbrev S1x1x4096 : Shape := ⟨3, ![1, 1, 4096]⟩
abbrev S8192x4096 : Shape := ⟨2, ![8192, 4096]⟩
abbrev S8192 : Shape := ⟨1, ![8192]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩
abbrev S8192x5 : Shape := ⟨2, ![8192, 5]⟩
abbrev S8192x10 : Shape := ⟨2, ![8192, 10]⟩

abbrev nBuf : Space → Nat
  | .hbm => 96
  | .vmem => 0
  | .smem => 0
  | _ => 0

abbrev bufTy : (tb : Table) → Fin (tcTables nBuf tb) → BufTy
  | .hbm, ⟨0, _⟩ => ⟨S2x64x4096, .f32⟩
  | .hbm, ⟨1, _⟩ => ⟨S2x4096, .i32⟩
  | .hbm, ⟨2, _⟩ => ⟨S4096x64, .f32⟩
  | .hbm, ⟨3, _⟩ => ⟨S4096x64, .f32⟩
  | .hbm, ⟨4, _⟩ => ⟨S4096, .f32⟩
  | .hbm, ⟨5, _⟩ => ⟨S2x4096x64, .f32⟩
  | .hbm, ⟨6, _⟩ => ⟨S2x4096x4096, .f32⟩
  | .hbm, ⟨7, _⟩ => ⟨S1x1x4096, .f32⟩
  | .hbm, ⟨8, _⟩ => ⟨S2x4096x4096, .f32⟩
  | .hbm, ⟨9, _⟩ => ⟨S2x4096x4096, .f32⟩
  | .hbm, ⟨10, _⟩ => ⟨S8192x4096, .f32⟩
  | .hbm, ⟨11, _⟩ => ⟨S8192, .i32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .i1⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192x1, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S8192x1, .i32⟩
  | .hbm, ⟨31, _⟩ => ⟨S_, .i32⟩
  | .hbm, ⟨32, _⟩ => ⟨S8192x1, .i32⟩
  | .hbm, ⟨33, _⟩ => ⟨S8192x1, .i1⟩
  | .hbm, ⟨34, _⟩ => ⟨S_, .i32⟩
  | .hbm, ⟨35, _⟩ => ⟨S8192x1, .i32⟩
  | .hbm, ⟨36, _⟩ => ⟨S8192x1, .i32⟩
  | .hbm, ⟨37, _⟩ => ⟨S8192x1, .i32⟩
  | .hbm, ⟨38, _⟩ => ⟨S8192x1x1, .i32⟩
  | .hbm, ⟨39, _⟩ => ⟨S1, .i32⟩
  | .hbm, ⟨40, _⟩ => ⟨S_, .i32⟩
  | .hbm, ⟨41, _⟩ => ⟨S8192x1x1, .i32⟩
  | .hbm, ⟨42, _⟩ => ⟨S8192x1x1, .i1⟩
  | .hbm, ⟨43, _⟩ => ⟨S1x1x1, .i32⟩
  | .hbm, ⟨44, _⟩ => ⟨S8192x1x1, .i32⟩
  | .hbm, ⟨45, _⟩ => ⟨S8192x1x1, .i1⟩
  | .hbm, ⟨46, _⟩ => ⟨S8192x1x1, .i1⟩
  | .hbm, ⟨47, _⟩ => ⟨S_, .i1⟩
  | .hbm, ⟨48, _⟩ => ⟨S8192x1, .i1⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8192x4096, .i32⟩
  | .hbm, ⟨62, _⟩ => ⟨S_, .f32⟩
  | .hbm, ⟨63, _⟩ => ⟨S_, .i32⟩
  | .hbm, ⟨64, _⟩ => ⟨S8192, .f32⟩
  | .hbm, ⟨65, _⟩ => ⟨S8192, .i32⟩
  | .hbm, ⟨66, _⟩ => ⟨S8192, .i1⟩
  | .hbm, ⟨67, _⟩ => ⟨S8192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S8192x5, .f32⟩
  | .hbm, ⟨73, _⟩ => ⟨S8192x5, .i32⟩
  | .hbm, ⟨74, _⟩ => ⟨S8192x1, .i32⟩
  | .hbm, ⟨75, _⟩ => ⟨S8192x5, .i32⟩
  | .hbm, ⟨76, _⟩ => ⟨S8192x5, .i1⟩
  | .hbm, ⟨77, _⟩ => ⟨S_, .i1⟩
  | .hbm, ⟨78, _⟩ => ⟨S8192, .i1⟩
  | .hbm, ⟨79, _⟩ => ⟨S8192, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S8192x10, .f32⟩
  | .hbm, ⟨85, _⟩ => ⟨S8192x10, .i32⟩
  | .hbm, ⟨86, _⟩ => ⟨S8192x1, .i32⟩
  | .hbm, ⟨87, _⟩ => ⟨S8192x10, .i32⟩
  | .hbm, ⟨88, _⟩ => ⟨S8192x10, .i1⟩
  | .hbm, ⟨89, _⟩ => ⟨S_, .i1⟩
  | .hbm, ⟨90, _⟩ => ⟨S8192, .i1⟩
  | .hbm, ⟨91, _⟩ => ⟨S8192, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S2x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_call2_v0 : Ref sig .tc := ⟨.hbm, 61, rfl⟩
abbrev main_call2_cst : Ref sig .tc := ⟨.hbm, 62, rfl⟩
abbrev main_call2_c : Ref sig .tc := ⟨.hbm, 63, rfl⟩
abbrev main_call2_v1_0 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_6 : Ref sig .tc := ⟨.hbm, 68, rfl⟩
abbrev main_v29 : Ref sig .tc := ⟨.hbm, 69, rfl⟩
abbrev main_cst_7 : Ref sig .tc := ⟨.hbm, 70, rfl⟩
abbrev main_v30 : Ref sig .tc := ⟨.hbm, 71, rfl⟩
abbrev main_values : Ref sig .tc := ⟨.hbm, 72, rfl⟩
abbrev main_indices : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_c : Ref sig .tc := ⟨.hbm, 77, rfl⟩
abbrev main_v34 : Ref sig .tc := ⟨.hbm, 78, rfl⟩
abbrev main_v35 : Ref sig .tc := ⟨.hbm, 79, rfl⟩
abbrev main_cst_8 : Ref sig .tc := ⟨.hbm, 80, rfl⟩
abbrev main_v36 : Ref sig .tc := ⟨.hbm, 81, rfl⟩
abbrev main_cst_9 : Ref sig .tc := ⟨.hbm, 82, rfl⟩
abbrev main_v37 : Ref sig .tc := ⟨.hbm, 83, rfl⟩
abbrev main_values_10 : Ref sig .tc := ⟨.hbm, 84, rfl⟩
abbrev main_indices_11 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_c_12 : Ref sig .tc := ⟨.hbm, 89, rfl⟩
abbrev main_v41 : Ref sig .tc := ⟨.hbm, 90, rfl⟩
abbrev main_v42 : Ref sig .tc := ⟨.hbm, 91, rfl⟩
abbrev main_cst_13 : Ref sig .tc := ⟨.hbm, 92, rfl⟩
abbrev main_v43 : Ref sig .tc := ⟨.hbm, 93, rfl⟩
abbrev main_cst_14 : Ref sig .tc := ⟨.hbm, 94, rfl⟩
abbrev main_v44 : Ref sig .tc := ⟨.hbm, 95, rfl⟩

abbrev nD : Nat := 1
abbrev τ : Topo := Topo.v7x

variable {F : FTy → Type} [FloatOps F]
-- ==== Proof.KerOut.lean ====
/-
  What one grid step of the kernel leaves in its four running sums.
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Out

open Idealize.ShloMosaic Idealize.ShloMosaic.TcCoe Idealize.SL.Sem
open Idealize.ShloMosaic.Pipeline (Dat)
open Cert.KernelIdeal Cert.KernelIdeal.Gen

variable {F : FTy → Type} [FloatOps F]

/-- The zero offsets of a matrix. -/
theorem hz2 : (![0, 0] : Fin 2 → Nat) = fun _ => 0 := funext fun a => by fin_cases a <;> rfl
/-- The zero offsets of a rank-three array. -/
theorem hz3 : (![0, 0, 0] : Fin 3 → Nat) = fun _ => 0 := funext fun a => by fin_cases a <;> rfl

/-- The loss sum, a step's block added. -/
def loss (x : Vec F S1x64x2048 .f32) (w : Vec F S4096x64 .f32) (k : Vec F S2048x1 .i32) (o : Vec F S1x1 .f32) : Vec F S1x1 .f32 :=
  k0_pay13 (k0_pay11 o) (k0_pay12 x w k)
/-- The count of first places, a step's block added. -/
def first (x : Vec F S1x64x2048 .f32) (w : Vec F S4096x64 .f32) (k : Vec F S2048x1 .i32) (o : Vec F S1x1 .f32) : Vec F S1x1 .f32 :=
  k0_pay14 (k0_pay10 x w k) o
/-- The count of first fives, a step's block added. -/
def five (x : Vec F S1x64x2048 .f32) (w : Vec F S4096x64 .f32) (k : Vec F S2048x1 .i32) (o : Vec F S1x1 .f32) : Vec F S1x1 .f32 :=
  k0_pay15 (k0_pay10 x w k) o
/-- The count of first tens, a step's block added. -/
def ten (x : Vec F S1x64x2048 .f32) (w : Vec F S4096x64 .f32) (k : Vec F S2048x1 .i32) (o : Vec F S1x1 .f32) : Vec F S1x1 .f32 :=
  k0_pay1 (k0_pay16 o) (k0_pay17 (k0_pay10 x w k))

/-- The first step leaves the loss sum at its block added to zero. -/
theorem loss_A (c : Dev nD) (i : grid0.Coords) (a1 : Memref sig .tc .vmem S1x64x2048 .f32) (h1 : a1.IsWhole)
    (a2 : Memref sig .tc .vmem S4096x64 .f32) (h2 : a2.IsWhole) (a3 : Memref sig .tc .vmem S2048x1 .i32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole) (hc0 : cond0_0 i) (hc1 : ¬cond0_1 i)
    (x : Vec F S1x64x2048 .f32) (w : Vec F S4096x64 .f32) (k : Vec F S2048x1 .i32) :
    out0_A_3 c i a1 h1 a2 h2 a3 h3 a4 h4 a5 h5 a6 h6 a7 h7 hc0 hc1 x w k
      = loss x w k (k0_pay6 (F := F)) := by
  unfold out0_A_3
  rw [View.read_writes_eq_canon _ _ _ (cover0_A_3 c i a1 h1 a2 h2 a3 h3 a4 h4 a5 h5 a6 h6 a7 h7 hc0 hc1 x w k)]
  unfold kernelRun0_A
  dsimp only
  sl_unfold_words
  rw [View.canon_cons_unit_zero (S := S1x1) hz2, View.readCov_unit_zero (S := S1x1) _ hz2]
  unfold loss
  simp only [View.readAt_eq_ld, h1.read_unread, h2.read_unread, h3.read_unread, h4.read_unread, h5.read_unread,
    h6.read_unread, h7.read_unread, View.ld_unit_zero (S := S1x1) hz2, View.ld_unit_zero (S := S4096x64) hz2,
    View.ld_unit_zero (S := S2048x1) hz2, View.ld_unit_zero (S := S1x64x2048) hz3]

/-- The first step leaves the count of first places at its block added to zero. -/
theorem first_A (c : Dev nD) (i : grid0.Coords) (a1 : Memref sig .tc .vmem S1x64x2048 .f32) (h1 : a1.IsWhole)
    (a2 : Memref sig .tc .vmem S4096x64 .f32) (h2 : a2.IsWhole) (a3 : Memref sig .tc .vmem S2048x1 .i32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole) (hc0 : cond0_0 i) (hc1 : ¬cond0_1 i)
    (x : Vec F S1x64x2048 .f32) (w : Vec F S4096x64 .f32) (k : Vec F S2048x1 .i32) :
    out0_A_4 c i a1 h1 a2 h2 a3 h3 a4 h4 a5 h5 a6 h6 a7 h7 hc0 hc1 x w k
      = first x w k (k0_pay6 (F := F)) := by
  unfold out0_A_4
  rw [View.read_writes_eq_canon _ _ _ (cover0_A_4 c i a1 h1 a2 h2 a3 h3 a4 h4 a5 h5 a6 h6 a7 h7 hc0 hc1 x w k)]
  unfold kernelRun0_A
  dsimp only
  sl_unfold_words
  rw [View.canon_cons_unit_zero (S := S1x1) hz2, View.readCov_unit_zero (S := S1x1) _ hz2]
  unfold first
  simp only [View.readAt_eq_ld, h1.read_unread, h2.read_unread, h3.read_unread, h4.read_unread, h5.read_unread,
    h6.read_unread, h7.read_unread, View.ld_unit_zero (S := S1x1) hz2, View.ld_unit_zero (S := S4096x64) hz2,
    View.ld_unit_zero (S := S2048x1) hz2, View.ld_unit_zero (S := S1x64x2048) hz3]

/-- The first step leaves the count of first fives at its block added to zero. -/
theorem five_A (c : Dev nD) (i : grid0.Coords) (a1 : Memref sig .tc .vmem S1x64x2048 .f32) (h1 : a1.IsWhole)
    (a2 : Memref sig .tc .vmem S4096x64 .f32) (h2 : a2.IsWhole) (a3 : Memref sig .tc .vmem S2048x1 .i32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole) (hc0 : cond0_0 i) (hc1 : ¬cond0_1 i)
    (x : Vec F S1x64x2048 .f32) (w : Vec F S4096x64 .f32) (k : Vec F S2048x1 .i32) :
    out0_A_5 c i a1 h1 a2 h2 a3 h3 a4 h4 a5 h5 a6 h6 a7 h7 hc0 hc1 x w k
      = five x w k (k0_pay6 (F := F)) := by
  unfold out0_A_5
  rw [View.read_writes_eq_canon _ _ _ (cover0_A_5 c i a1 h1 a2 h2 a3 h3 a4 h4 a5 h5 a6 h6 a7 h7 hc0 hc1 x w k)]
  unfold kernelRun0_A
  dsimp only
  sl_unfold_words
  rw [View.canon_cons_unit_zero (S := S1x1) hz2, View.readCov_unit_zero (S := S1x1) _ hz2]
  unfold five
  simp only [View.readAt_eq_ld, h1.read_unread, h2.read_unread, h3.read_unread, h4.read_unread, h5.read_unread,
    h6.read_unread, h7.read_unread, View.ld_unit_zero (S := S1x1) hz2, View.ld_unit_zero (S := S4096x64) hz2,
    View.ld_unit_zero (S := S2048x1) hz2, View.ld_unit_zero (S := S1x64x2048) hz3]

/-- The first step leaves the count of first tens at its block added to zero. -/
theorem ten_A (c : Dev nD) (i : grid0.Coords) (a1 : Memref sig .tc .vmem S1x64x2048 .f32) (h1 : a1.IsWhole)
    (a2 : Memref sig .tc .vmem S4096x64 .f32) (h2 : a2.IsWhole) (a3 : Memref sig .tc .vmem S2048x1 .i32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole) (hc0 : cond0_0 i) (hc1 : ¬cond0_1 i)
    (x : Vec F S1x64x2048 .f32) (w : Vec F S4096x64 .f32) (k : Vec F S2048x1 .i32) :
    out0_A_6 c i a1 h1 a2 h2 a3 h3 a4 h4 a5 h5 a6 h6 a7 h7 hc0 hc1 x w k
      = ten x w k (k0_pay6 (F := F)) := by
  unfold out0_A_6
  rw [View.read_writes_eq_canon _ _ _ (cover0_A_6 c i a1 h1 a2 h2 a3 h3 a4 h4 a5 h5 a6 h6 a7 h7 hc0 hc1 x w k)]
  unfold kernelRun0_A
  dsimp only
  sl_unfold_words
  rw [View.canon_cons_unit_zero (S := S1x1) hz2, View.readCov_unit_zero (S := S1x1) _ hz2]
  unfold ten
  simp only [View.readAt_eq_ld, h1.read_unread, h2.read_unread, h3.read_unread, h4.read_unread, h5.read_unread,
    h6.read_unread, h7.read_unread, View.ld_unit_zero (S := S1x1) hz2, View.ld_unit_zero (S := S4096x64) hz2,
    View.ld_unit_zero (S := S2048x1) hz2, View.ld_unit_zero (S := S1x64x2048) hz3]

/-- A middle step adds its block to the loss sum. -/
theorem loss_B (c : Dev nD) (i : grid0.Coords) (a1 : Memref sig .tc .vmem S1x64x2048 .f32) (h1 : a1.IsWhole)
    (a2 : Memref sig .tc .vmem S4096x64 .f32) (h2 : a2.IsWhole) (a3 : Memref sig .tc .vmem S2048x1 .i32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole) (hc0 : ¬cond0_0 i) (hc1 : ¬cond0_1 i)
    (x : Vec F S1x64x2048 .f32) (w : Vec F S4096x64 .f32) (k : Vec F S2048x1 .i32) (o3 o4 o5 o6 : Vec F S1x1 .f32) :
    out0_B_3 c i a1 h1 a2 h2 a3 h3 a4 h4 a5 h5 a6 h6 a7 h7 hc0 hc1 x w k o3 o4 o5 o6
      = loss x w k o3 := by
  unfold out0_B_3
  rw [View.read_writes_eq_canon _ _ _ (cover0_B_3 c i a1 h1 a2 h2 a3 h3 a4 h4 a5 h5 a6 h6 a7 h7 hc0 hc1 x w k o3 o4 o5 o6)]
  unfold kernelRun0_B
  dsimp only
  sl_unfold_words
  rw [View.canon_unit_zero hz2]
  unfold loss
  simp only [View.readAt_eq_ld, h1.read_unread, h2.read_unread, h3.read_unread, h4.read_unread, h5.read_unread,
    h6.read_unread, h7.read_unread, View.ld_unit_zero (S := S1x1) hz2, View.ld_unit_zero (S := S4096x64) hz2,
    View.ld_unit_zero (S := S2048x1) hz2, View.ld_unit_zero (S := S1x64x2048) hz3]

/-- A middle step adds its block to the count of first places. -/
theorem first_B (c : Dev nD) (i : grid0.Coords) (a1 : Memref sig .tc .vmem S1x64x2048 .f32) (h1 : a1.IsWhole)
    (a2 : Memref sig .tc .vmem S4096x64 .f32) (h2 : a2.IsWhole) (a3 : Memref sig .tc .vmem S2048x1 .i32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole) (hc0 : ¬cond0_0 i) (hc1 : ¬cond0_1 i)
    (x : Vec F S1x64x2048 .f32) (w : Vec F S4096x64 .f32) (k : Vec F S2048x1 .i32) (o3 o4 o5 o6 : Vec F S1x1 .f32) :
    out0_B_4 c i a1 h1 a2 h2 a3 h3 a4 h4 a5 h5 a6 h6 a7 h7 hc0 hc1 x w k o3 o4 o5 o6
      = first x w k o4 := by
  unfold out0_B_4
  rw [View.read_writes_eq_canon _ _ _ (cover0_B_4 c i a1 h1 a2 h2 a3 h3 a4 h4 a5 h5 a6 h6 a7 h7 hc0 hc1 x w k o3 o4 o5 o6)]
  unfold kernelRun0_B
  dsimp only
  sl_unfold_words
  rw [View.canon_unit_zero hz2]
  unfold first
  simp only [View.readAt_eq_ld, h1.read_unread, h2.read_unread, h3.read_unread, h4.read_unread, h5.read_unread,
    h6.read_unread, h7.read_unread, View.ld_unit_zero (S := S1x1) hz2, View.ld_unit_zero (S := S4096x64) hz2,
    View.ld_unit_zero (S := S2048x1) hz2, View.ld_unit_zero (S := S1x64x2048) hz3]

/-- A middle step adds its block to the count of first fives. -/
theorem five_B (c : Dev nD) (i : grid0.Coords) (a1 : Memref sig .tc .vmem S1x64x2048 .f32) (h1 : a1.IsWhole)
    (a2 : Memref sig .tc .vmem S4096x64 .f32) (h2 : a2.IsWhole) (a3 : Memref sig .tc .vmem S2048x1 .i32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole) (hc0 : ¬cond0_0 i) (hc1 : ¬cond0_1 i)
    (x : Vec F S1x64x2048 .f32) (w : Vec F S4096x64 .f32) (k : Vec F S2048x1 .i32) (o3 o4 o5 o6 : Vec F S1x1 .f32) :
    out0_B_5 c i a1 h1 a2 h2 a3 h3 a4 h4 a5 h5 a6 h6 a7 h7 hc0 hc1 x w k o3 o4 o5 o6
      = five x w k o5 := by
  unfold out0_B_5
  rw [View.read_writes_eq_canon _ _ _ (cover0_B_5 c i a1 h1 a2 h2 a3 h3 a4 h4 a5 h5 a6 h6 a7 h7 hc0 hc1 x w k o3 o4 o5 o6)]
  unfold kernelRun0_B
  dsimp only
  sl_unfold_words
  rw [View.canon_unit_zero hz2]
  unfold five
  simp only [View.readAt_eq_ld, h1.read_unread, h2.read_unread, h3.read_unread, h4.read_unread, h5.read_unread,
    h6.read_unread, h7.read_unread, View.ld_unit_zero (S := S1x1) hz2, View.ld_unit_zero (S := S4096x64) hz2,
    View.ld_unit_zero (S := S2048x1) hz2, View.ld_unit_zero (S := S1x64x2048) hz3]

/-- A middle step adds its block to the count of first tens. -/
theorem ten_B (c : Dev nD) (i : grid0.Coords) (a1 : Memref sig .tc .vmem S1x64x2048 .f32) (h1 : a1.IsWhole)
    (a2 : Memref sig .tc .vmem S4096x64 .f32) (h2 : a2.IsWhole) (a3 : Memref sig .tc .vmem S2048x1 .i32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole) (hc0 : ¬cond0_0 i) (hc1 : ¬cond0_1 i)
    (x : Vec F S1x64x2048 .f32) (w : Vec F S4096x64 .f32) (k : Vec F S2048x1 .i32) (o3 o4 o5 o6 : Vec F S1x1 .f32) :
    out0_B_6 c i a1 h1 a2 h2 a3 h3 a4 h4 a5 h5 a6 h6 a7 h7 hc0 hc1 x w k o3 o4 o5 o6
      = ten x w k o6 := by
  unfold out0_B_6
  rw [View.read_writes_eq_canon _ _ _ (cover0_B_6 c i a1 h1 a2 h2 a3 h3 a4 h4 a5 h5 a6 h6 a7 h7 hc0 hc1 x w k o3 o4 o5 o6)]
  unfold kernelRun0_B
  dsimp only
  sl_unfold_words
  rw [View.canon_unit_zero hz2]
  unfold ten
  simp only [View.readAt_eq_ld, h1.read_unread, h2.read_unread, h3.read_unread, h4.read_unread, h5.read_unread,
    h6.read_unread, h7.read_unread, View.ld_unit_zero (S := S1x1) hz2, View.ld_unit_zero (S := S4096x64) hz2,
    View.ld_unit_zero (S := S2048x1) hz2, View.ld_unit_zero (S := S1x64x2048) hz3]

/-- The last step adds its block to the loss sum and takes its share. -/
theorem loss_C (c : Dev nD) (i : grid0.Coords) (a1 : Memref sig .tc .vmem S1x64x2048 .f32) (h1 : a1.IsWhole)
    (a2 : Memref sig .tc .vmem S4096x64 .f32) (h2 : a2.IsWhole) (a3 : Memref sig .tc .vmem S2048x1 .i32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole) (hc0 : ¬cond0_0 i) (hc1 : cond0_1 i)
    (x : Vec F S1x64x2048 .f32) (w : Vec F S4096x64 .f32) (k : Vec F S2048x1 .i32) (o3 o4 o5 o6 : Vec F S1x1 .f32) :
    out0_C_3 c i a1 h1 a2 h2 a3 h3 a4 h4 a5 h5 a6 h6 a7 h7 hc0 hc1 x w k o3 o4 o5 o6
      = k0_pay2 (loss x w k o3) := by
  unfold out0_C_3
  rw [View.read_writes_eq_canon _ _ _ (cover0_C_3 c i a1 h1 a2 h2 a3 h3 a4 h4 a5 h5 a6 h6 a7 h7 hc0 hc1 x w k o3 o4 o5 o6)]
  unfold kernelRun0_C
  dsimp only
  sl_unfold_words
  rw [View.canon_cons_unit_zero (S := S1x1) hz2, View.readCov_unit_zero (S := S1x1) _ hz2]
  unfold loss
  simp only [View.readAt_eq_ld, h1.read_unread, h2.read_unread, h3.read_unread, h4.read_unread, h5.read_unread,
    h6.read_unread, h7.read_unread, View.ld_unit_zero (S := S1x1) hz2, View.ld_unit_zero (S := S4096x64) hz2,
    View.ld_unit_zero (S := S2048x1) hz2, View.ld_unit_zero (S := S1x64x2048) hz3]

/-- The last step adds its block to the count of first places and takes its share. -/
theorem first_C (c : Dev nD) (i : grid0.Coords) (a1 : Memref sig .tc .vmem S1x64x2048 .f32) (h1 : a1.IsWhole)
    (a2 : Memref sig .tc .vmem S4096x64 .f32) (h2 : a2.IsWhole) (a3 : Memref sig .tc .vmem S2048x1 .i32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole) (hc0 : ¬cond0_0 i) (hc1 : cond0_1 i)
    (x : Vec F S1x64x2048 .f32) (w : Vec F S4096x64 .f32) (k : Vec F S2048x1 .i32) (o3 o4 o5 o6 : Vec F S1x1 .f32) :
    out0_C_4 c i a1 h1 a2 h2 a3 h3 a4 h4 a5 h5 a6 h6 a7 h7 hc0 hc1 x w k o3 o4 o5 o6
      = k0_pay3 (first x w k o4) := by
  unfold out0_C_4
  rw [View.read_writes_eq_canon _ _ _ (cover0_C_4 c i a1 h1 a2 h2 a3 h3 a4 h4 a5 h5 a6 h6 a7 h7 hc0 hc1 x w k o3 o4 o5 o6)]
  unfold kernelRun0_C
  dsimp only
  sl_unfold_words
  rw [View.canon_cons_unit_zero (S := S1x1) hz2, View.readCov_unit_zero (S := S1x1) _ hz2]
  unfold first
  simp only [View.readAt_eq_ld, h1.read_unread, h2.read_unread, h3.read_unread, h4.read_unread, h5.read_unread,
    h6.read_unread, h7.read_unread, View.ld_unit_zero (S := S1x1) hz2, View.ld_unit_zero (S := S4096x64) hz2,
    View.ld_unit_zero (S := S2048x1) hz2, View.ld_unit_zero (S := S1x64x2048) hz3]

/-- The last step adds its block to the count of first fives and takes its share. -/
theorem five_C (c : Dev nD) (i : grid0.Coords) (a1 : Memref sig .tc .vmem S1x64x2048 .f32) (h1 : a1.IsWhole)
    (a2 : Memref sig .tc .vmem S4096x64 .f32) (h2 : a2.IsWhole) (a3 : Memref sig .tc .vmem S2048x1 .i32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole) (hc0 : ¬cond0_0 i) (hc1 : cond0_1 i)
    (x : Vec F S1x64x2048 .f32) (w : Vec F S4096x64 .f32) (k : Vec F S2048x1 .i32) (o3 o4 o5 o6 : Vec F S1x1 .f32) :
    out0_C_5 c i a1 h1 a2 h2 a3 h3 a4 h4 a5 h5 a6 h6 a7 h7 hc0 hc1 x w k o3 o4 o5 o6
      = k0_pay4 (five x w k o5) := by
  unfold out0_C_5
  rw [View.read_writes_eq_canon _ _ _ (cover0_C_5 c i a1 h1 a2 h2 a3 h3 a4 h4 a5 h5 a6 h6 a7 h7 hc0 hc1 x w k o3 o4 o5 o6)]
  unfold kernelRun0_C
  dsimp only
  sl_unfold_words
  rw [View.canon_cons_unit_zero (S := S1x1) hz2, View.readCov_unit_zero (S := S1x1) _ hz2]
  unfold five
  simp only [View.readAt_eq_ld, h1.read_unread, h2.read_unread, h3.read_unread, h4.read_unread, h5.read_unread,
    h6.read_unread, h7.read_unread, View.ld_unit_zero (S := S1x1) hz2, View.ld_unit_zero (S := S4096x64) hz2,
    View.ld_unit_zero (S := S2048x1) hz2, View.ld_unit_zero (S := S1x64x2048) hz3]

/-- The last step adds its block to the count of first tens and takes its share. -/
theorem ten_C (c : Dev nD) (i : grid0.Coords) (a1 : Memref sig .tc .vmem S1x64x2048 .f32) (h1 : a1.IsWhole)
    (a2 : Memref sig .tc .vmem S4096x64 .f32) (h2 : a2.IsWhole) (a3 : Memref sig .tc .vmem S2048x1 .i32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole) (hc0 : ¬cond0_0 i) (hc1 : cond0_1 i)
    (x : Vec F S1x64x2048 .f32) (w : Vec F S4096x64 .f32) (k : Vec F S2048x1 .i32) (o3 o4 o5 o6 : Vec F S1x1 .f32) :
    out0_C_6 c i a1 h1 a2 h2 a3 h3 a4 h4 a5 h5 a6 h6 a7 h7 hc0 hc1 x w k o3 o4 o5 o6
      = k0_pay5 (ten x w k o6) := by
  unfold out0_C_6
  rw [View.read_writes_eq_canon _ _ _ (cover0_C_6 c i a1 h1 a2 h2 a3 h3 a4 h4 a5 h5 a6 h6 a7 h7 hc0 hc1 x w k o3 o4 o5 o6)]
  unfold kernelRun0_C
  dsimp only
  sl_unfold_words
  rw [View.canon_cons_unit_zero (S := S1x1) hz2, View.readCov_unit_zero (S := S1x1) _ hz2]
  unfold ten
  simp only [View.readAt_eq_ld, h1.read_unread, h2.read_unread, h3.read_unread, h4.read_unread, h5.read_unread,
    h6.read_unread, h7.read_unread, View.ld_unit_zero (S := S1x1) hz2, View.ld_unit_zero (S := S4096x64) hz2,
    View.ld_unit_zero (S := S2048x1) hz2, View.ld_unit_zero (S := S1x64x2048) hz3]

end Cert.KernelIdeal.Out

end
-- ==== Proof.KerRun.lean ====
/-
  What the kernel's four results hold: the running sums after the last grid step, reshaped to scalars.
-/
module

public import proofs.«01_k».proof.Proof.KerOut
public import Idealize.ShloMosaic.Lib.Pointwise
public import Idealize.ShloMosaic.Lib.StableHlo.Run
public import Idealize.ShloMosaic.Lib.StableHlo.RunHlo

@[expose] public section

set_option maxRecDepth 16384

noncomputable section

namespace Cert.KernelIdeal.Out

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## The running sums -/

/-- A step function: from a block of inputs, of weights and of codes, a running sum to the next. -/
abbrev Step (F : FTy → Type) : Type :=
  Vec F S1x64x2048 .f32 → Vec F S4096x64 .f32 → Vec F S2048x1 .i32 → Vec F S1x1 .f32 → Vec F S1x1 .f32

/-- The running sum after a point: the steps' blocks added one after another to zero. -/
def upto (f : Step F) (c : Dev nD) : (n : ℕ) → n < cfg0.N → Vec F S1x1 .f32
  | 0, h => f (iblk m c 0 ⟨0, h⟩) (iblk m c 1 ⟨0, h⟩) (iblk m c 2 ⟨0, h⟩) (k0_pay6 (F := F))
  | n + 1, h => f (iblk m c 0 ⟨n + 1, h⟩) (iblk m c 1 ⟨n + 1, h⟩) (iblk m c 2 ⟨n + 1, h⟩) (upto f c n (Nat.lt_of_succ_lt h))

/-- Before the last point, the staging buffers hold the running sums. -/
theorem outsAt_eq (c : Dev nD) : ∀ (n : ℕ) (h : n < cfg0.N), n < 3 →
    outsAt0 m c n h = (upto m loss c n h, upto m first c n h, upto m five c n h, upto m ten c n h)
  | 0, h, _ => by
    rw [outsAt0_A m c ⟨0, h⟩ rfl (by decide : ¬(0 : ℕ) % 4 = 3), loss_A, first_A, five_A, ten_A]
    rfl
  | n + 1, h, h3 => by
    rw [outsAt0_B m c ⟨n + 1, h⟩ (by dsimp only; omega) (by dsimp only; omega), loss_B, first_B, five_B, ten_B]
    simp only [Nat.add_sub_cancel]
    rw [outsAt_eq c n (Nat.lt_of_succ_lt h) (by omega)]
    rfl

/-- The last point is a point. -/
theorem last_lt : 3 < cfg0.N := by rw [show cfg0.N = 4 from N_0]; decide

/-- After the last point, they hold the shares of the running sums. -/
theorem outsAt_last (c : Dev nD) : outsAt0 m c 3 last_lt = (k0_pay2 (upto m loss c 3 last_lt), k0_pay3 (upto m first c 3 last_lt),
    k0_pay4 (upto m five c 3 last_lt), k0_pay5 (upto m ten c 3 last_lt)) := by
  rw [outsAt0_C m c ⟨3, last_lt⟩ (by decide) (by decide), loss_C, first_C, five_C, ten_C]
  rw [show outsAt0 m c ((⟨3, last_lt⟩ : Fin cfg0.N).val - 1) _ = _ from outsAt_eq m c 2 (Nat.lt_of_succ_lt last_lt) (by decide)]
  rfl

/-! ## The result arrays -/

/-- The one write-back of window 3 writes its sum's share. -/
theorem flushed_3 (c : Dev nD) (t : Fin cfg0.N) (hf : (cfg0.win 3).flush t = true) :
    (dats m 0 c).flushed 3 t = ((cfg0.win 3).blk t).view.read (Elt F) (k0_pay2 (upto m loss c 3 last_lt)) := by
  have hN : cfg0.N = 4 := N_0
  have h3 : t.val = 3 := by have := (flush0_3 t).mp hf; have := t.isLt; omega
  obtain rfl : t = t0_3 := Fin.ext h3
  show (cfg0.win 3).cut (grid0.coords t0_3) ((dats m 0 c).after 3 t0_3) = _
  rw [after0_3, show outsAt0 m c t0_3.val _ = _ from outsAt_last m c]
  have hz' : (fun a => win0_3.index t0_3 a * main_v1_0.ty.shape.size a) = fun _ => 0 := funext fun a => by fin_cases a <;> decide
  exact (Memref.read_access_unit_zero (Elt F) main_v1_0 hz' (fun a => by rw [congrFun hz' a]; simp)
    (k0_pay2 (upto m loss c 3 last_lt))).symm

/-- So window 3's array ends holding it. -/
theorem final_3 (c : Dev nD) : (dats m 0 c).arrAt 3 cfg0.N = k0_pay2 (upto m loss c 3 last_lt) :=
  (dats m 0 c).arrAt_eq_of_cover 3 (k0_pay2 (upto m loss c 3 last_lt)) (flushed_3 m c) fun i =>
    ⟨t0_3, (flush0_3 t0_3).mpr rfl, by
      show i ∈ ((View.whole main_v1_0).slice (win0_3.rect t0_3)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index t0_3 0 * win0_3.size 0 ≤ (i 0 : Nat)
          ∧ (i 0 : Nat) < win0_3.index t0_3 0 * win0_3.size 0 + win0_3.xsize (grid0.coords t0_3) 0
        rw [show win0_3.index t0_3 0 * win0_3.size 0 = 0 from by decide +kernel,
          show win0_3.xsize (grid0.coords t0_3) 0 = 1 from by decide +kernel]; omega
      | ⟨1, _⟩ =>
        show win0_3.index t0_3 1 * win0_3.size 1 ≤ (i 1 : Nat)
          ∧ (i 1 : Nat) < win0_3.index t0_3 1 * win0_3.size 1 + win0_3.xsize (grid0.coords t0_3) 1
        rw [show win0_3.index t0_3 1 * win0_3.size 1 = 0 from by decide +kernel,
          show win0_3.xsize (grid0.coords t0_3) 1 = 1 from by decide +kernel]; omega⟩

/-- The scalar the lines after the region make of it. -/
theorem tail_3 (c : Dev nD) : Pipeline.afterTail₀ cfgs (dats m) 0 (V0 m) [hostOps1] c main_v2
    = shapeCast S_ (k0_pay2 (upto m loss c 3 last_lt)) shapeCasts_S1x1_S_ := by
  have e : Pipeline.withArrays spec0 c (V0 m c) (fun w => (dats m 0 c).arrAt w cfg0.N) (Proc.devRef .tc main_v1_0)
      = k0_pay2 (upto m loss c 3 last_lt) :=
    (Pipeline.withArrays_arr spec0 launch0.win.arr_inj c (V0 m c) (fun w => (dats m 0 c).arrAt w cfg0.N) 3).trans (final_3 m c)
  unfold Pipeline.afterTail₀
  rw [show StableHlo.after (List.flatten [hostOps1]) (Pipeline.withArrays spec0 c (V0 m c) (fun w => (dats m 0 c).arrAt w cfg0.N))
    (Proc.devRef .tc main_v2) = shapeCast S_ (Pipeline.withArrays spec0 c (V0 m c) (fun w => (dats m 0 c).arrAt w cfg0.N)
      (Proc.devRef .tc main_v1_0)) shapeCasts_S1x1_S_ from by
    generalize Pipeline.withArrays spec0 c (V0 m c) (fun w => (dats m 0 c).arrAt w cfg0.N) = X
    simp only [List.flatten_cons, List.flatten_nil, List.append_nil]
    after_results
    rfl]
  rw [e]

/-- The one write-back of window 4 writes its sum's share. -/
theorem flushed_4 (c : Dev nD) (t : Fin cfg0.N) (hf : (cfg0.win 4).flush t = true) :
    (dats m 0 c).flushed 4 t = ((cfg0.win 4).blk t).view.read (Elt F) (k0_pay3 (upto m first c 3 last_lt)) := by
  have hN : cfg0.N = 4 := N_0
  have h3 : t.val = 3 := by have := (flush0_4 t).mp hf; have := t.isLt; omega
  obtain rfl : t = t0_3 := Fin.ext h3
  show (cfg0.win 4).cut (grid0.coords t0_3) ((dats m 0 c).after 4 t0_3) = _
  rw [after0_4, show outsAt0 m c t0_3.val _ = _ from outsAt_last m c]
  have hz' : (fun a => win0_4.index t0_3 a * main_v1_1.ty.shape.size a) = fun _ => 0 := funext fun a => by fin_cases a <;> decide
  exact (Memref.read_access_unit_zero (Elt F) main_v1_1 hz' (fun a => by rw [congrFun hz' a]; simp)
    (k0_pay3 (upto m first c 3 last_lt))).symm

/-- So window 4's array ends holding it. -/
theorem final_4 (c : Dev nD) : (dats m 0 c).arrAt 4 cfg0.N = k0_pay3 (upto m first c 3 last_lt) :=
  (dats m 0 c).arrAt_eq_of_cover 4 (k0_pay3 (upto m first c 3 last_lt)) (flushed_4 m c) fun i =>
    ⟨t0_3, (flush0_4 t0_3).mpr rfl, by
      show i ∈ ((View.whole main_v1_1).slice (win0_4.rect t0_3)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index t0_3 0 * win0_4.size 0 ≤ (i 0 : Nat)
          ∧ (i 0 : Nat) < win0_4.index t0_3 0 * win0_4.size 0 + win0_4.xsize (grid0.coords t0_3) 0
        rw [show win0_4.index t0_3 0 * win0_4.size 0 = 0 from by decide +kernel,
          show win0_4.xsize (grid0.coords t0_3) 0 = 1 from by decide +kernel]; omega
      | ⟨1, _⟩ =>
        show win0_4.index t0_3 1 * win0_4.size 1 ≤ (i 1 : Nat)
          ∧ (i 1 : Nat) < win0_4.index t0_3 1 * win0_4.size 1 + win0_4.xsize (grid0.coords t0_3) 1
        rw [show win0_4.index t0_3 1 * win0_4.size 1 = 0 from by decide +kernel,
          show win0_4.xsize (grid0.coords t0_3) 1 = 1 from by decide +kernel]; omega⟩

/-- The scalar the lines after the region make of it. -/
theorem tail_4 (c : Dev nD) : Pipeline.afterTail₀ cfgs (dats m) 0 (V0 m) [hostOps1] c main_v3
    = shapeCast S_ (k0_pay3 (upto m first c 3 last_lt)) shapeCasts_S1x1_S_ := by
  have e : Pipeline.withArrays spec0 c (V0 m c) (fun w => (dats m 0 c).arrAt w cfg0.N) (Proc.devRef .tc main_v1_1)
      = k0_pay3 (upto m first c 3 last_lt) :=
    (Pipeline.withArrays_arr spec0 launch0.win.arr_inj c (V0 m c) (fun w => (dats m 0 c).arrAt w cfg0.N) 4).trans (final_4 m c)
  unfold Pipeline.afterTail₀
  rw [show StableHlo.after (List.flatten [hostOps1]) (Pipeline.withArrays spec0 c (V0 m c) (fun w => (dats m 0 c).arrAt w cfg0.N))
    (Proc.devRef .tc main_v3) = shapeCast S_ (Pipeline.withArrays spec0 c (V0 m c) (fun w => (dats m 0 c).arrAt w cfg0.N)
      (Proc.devRef .tc main_v1_1)) shapeCasts_S1x1_S_ from by
    generalize Pipeline.withArrays spec0 c (V0 m c) (fun w => (dats m 0 c).arrAt w cfg0.N) = X
    simp only [List.flatten_cons, List.flatten_nil, List.append_nil]
    after_results
    rfl]
  rw [e]

/-- The one write-back of window 5 writes its sum's share. -/
theorem flushed_5 (c : Dev nD) (t : Fin cfg0.N) (hf : (cfg0.win 5).flush t = true) :
    (dats m 0 c).flushed 5 t = ((cfg0.win 5).blk t).view.read (Elt F) (k0_pay4 (upto m five c 3 last_lt)) := by
  have hN : cfg0.N = 4 := N_0
  have h3 : t.val = 3 := by have := (flush0_5 t).mp hf; have := t.isLt; omega
  obtain rfl : t = t0_3 := Fin.ext h3
  show (cfg0.win 5).cut (grid0.coords t0_3) ((dats m 0 c).after 5 t0_3) = _
  rw [after0_5, show outsAt0 m c t0_3.val _ = _ from outsAt_last m c]
  have hz' : (fun a => win0_5.index t0_3 a * main_v1_2.ty.shape.size a) = fun _ => 0 := funext fun a => by fin_cases a <;> decide
  exact (Memref.read_access_unit_zero (Elt F) main_v1_2 hz' (fun a => by rw [congrFun hz' a]; simp)
    (k0_pay4 (upto m five c 3 last_lt))).symm

/-- So window 5's array ends holding it. -/
theorem final_5 (c : Dev nD) : (dats m 0 c).arrAt 5 cfg0.N = k0_pay4 (upto m five c 3 last_lt) :=
  (dats m 0 c).arrAt_eq_of_cover 5 (k0_pay4 (upto m five c 3 last_lt)) (flushed_5 m c) fun i =>
    ⟨t0_3, (flush0_5 t0_3).mpr rfl, by
      show i ∈ ((View.whole main_v1_2).slice (win0_5.rect t0_3)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index t0_3 0 * win0_5.size 0 ≤ (i 0 : Nat)
          ∧ (i 0 : Nat) < win0_5.index t0_3 0 * win0_5.size 0 + win0_5.xsize (grid0.coords t0_3) 0
        rw [show win0_5.index t0_3 0 * win0_5.size 0 = 0 from by decide +kernel,
          show win0_5.xsize (grid0.coords t0_3) 0 = 1 from by decide +kernel]; omega
      | ⟨1, _⟩ =>
        show win0_5.index t0_3 1 * win0_5.size 1 ≤ (i 1 : Nat)
          ∧ (i 1 : Nat) < win0_5.index t0_3 1 * win0_5.size 1 + win0_5.xsize (grid0.coords t0_3) 1
        rw [show win0_5.index t0_3 1 * win0_5.size 1 = 0 from by decide +kernel,
          show win0_5.xsize (grid0.coords t0_3) 1 = 1 from by decide +kernel]; omega⟩

/-- The scalar the lines after the region make of it. -/
theorem tail_5 (c : Dev nD) : Pipeline.afterTail₀ cfgs (dats m) 0 (V0 m) [hostOps1] c main_v4
    = shapeCast S_ (k0_pay4 (upto m five c 3 last_lt)) shapeCasts_S1x1_S_ := by
  have e : Pipeline.withArrays spec0 c (V0 m c) (fun w => (dats m 0 c).arrAt w cfg0.N) (Proc.devRef .tc main_v1_2)
      = k0_pay4 (upto m five c 3 last_lt) :=
    (Pipeline.withArrays_arr spec0 launch0.win.arr_inj c (V0 m c) (fun w => (dats m 0 c).arrAt w cfg0.N) 5).trans (final_5 m c)
  unfold Pipeline.afterTail₀
  rw [show StableHlo.after (List.flatten [hostOps1]) (Pipeline.withArrays spec0 c (V0 m c) (fun w => (dats m 0 c).arrAt w cfg0.N))
    (Proc.devRef .tc main_v4) = shapeCast S_ (Pipeline.withArrays spec0 c (V0 m c) (fun w => (dats m 0 c).arrAt w cfg0.N)
      (Proc.devRef .tc main_v1_2)) shapeCasts_S1x1_S_ from by
    generalize Pipeline.withArrays spec0 c (V0 m c) (fun w => (dats m 0 c).arrAt w cfg0.N) = X
    simp only [List.flatten_cons, List.flatten_nil, List.append_nil]
    after_results
    rfl]
  rw [e]

/-- The one write-back of window 6 writes its sum's share. -/
theorem flushed_6 (c : Dev nD) (t : Fin cfg0.N) (hf : (cfg0.win 6).flush t = true) :
    (dats m 0 c).flushed 6 t = ((cfg0.win 6).blk t).view.read (Elt F) (k0_pay5 (upto m ten c 3 last_lt)) := by
  have hN : cfg0.N = 4 := N_0
  have h3 : t.val = 3 := by have := (flush0_6 t).mp hf; have := t.isLt; omega
  obtain rfl : t = t0_3 := Fin.ext h3
  show (cfg0.win 6).cut (grid0.coords t0_3) ((dats m 0 c).after 6 t0_3) = _
  rw [after0_6, show outsAt0 m c t0_3.val _ = _ from outsAt_last m c]
  have hz' : (fun a => win0_6.index t0_3 a * main_v1_3.ty.shape.size a) = fun _ => 0 := funext fun a => by fin_cases a <;> decide
  exact (Memref.read_access_unit_zero (Elt F) main_v1_3 hz' (fun a => by rw [congrFun hz' a]; simp)
    (k0_pay5 (upto m ten c 3 last_lt))).symm

/-- So window 6's array ends holding it. -/
theorem final_6 (c : Dev nD) : (dats m 0 c).arrAt 6 cfg0.N = k0_pay5 (upto m ten c 3 last_lt) :=
  (dats m 0 c).arrAt_eq_of_cover 6 (k0_pay5 (upto m ten c 3 last_lt)) (flushed_6 m c) fun i =>
    ⟨t0_3, (flush0_6 t0_3).mpr rfl, by
      show i ∈ ((View.whole main_v1_3).slice (win0_6.rect t0_3)).set
      rw [View.set_slice_whole, Rect.mem_set_unit]
      intro a
      have h0 : (i 0 : Nat) < 1 := (i 0).isLt
      have h1 : (i 1 : Nat) < 1 := (i 1).isLt
      match a with
      | ⟨0, _⟩ =>
        show win0_6.index t0_3 0 * win0_6.size 0 ≤ (i 0 : Nat)
          ∧ (i 0 : Nat) < win0_6.index t0_3 0 * win0_6.size 0 + win0_6.xsize (grid0.coords t0_3) 0
        rw [show win0_6.index t0_3 0 * win0_6.size 0 = 0 from by decide +kernel,
          show win0_6.xsize (grid0.coords t0_3) 0 = 1 from by decide +kernel]; omega
      | ⟨1, _⟩ =>
        show win0_6.index t0_3 1 * win0_6.size 1 ≤ (i 1 : Nat)
          ∧ (i 1 : Nat) < win0_6.index t0_3 1 * win0_6.size 1 + win0_6.xsize (grid0.coords t0_3) 1
        rw [show win0_6.index t0_3 1 * win0_6.size 1 = 0 from by decide +kernel,
          show win0_6.xsize (grid0.coords t0_3) 1 = 1 from by decide +kernel]; omega⟩

/-- The scalar the lines after the region make of it. -/
theorem tail_6 (c : Dev nD) : Pipeline.afterTail₀ cfgs (dats m) 0 (V0 m) [hostOps1] c main_v5
    = shapeCast S_ (k0_pay5 (upto m ten c 3 last_lt)) shapeCasts_S1x1_S_ := by
  have e : Pipeline.withArrays spec0 c (V0 m c) (fun w => (dats m 0 c).arrAt w cfg0.N) (Proc.devRef .tc main_v1_3)
      = k0_pay5 (upto m ten c 3 last_lt) :=
    (Pipeline.withArrays_arr spec0 launch0.win.arr_inj c (V0 m c) (fun w => (dats m 0 c).arrAt w cfg0.N) 6).trans (final_6 m c)
  unfold Pipeline.afterTail₀
  rw [show StableHlo.after (List.flatten [hostOps1]) (Pipeline.withArrays spec0 c (V0 m c) (fun w => (dats m 0 c).arrAt w cfg0.N))
    (Proc.devRef .tc main_v5) = shapeCast S_ (Pipeline.withArrays spec0 c (V0 m c) (fun w => (dats m 0 c).arrAt w cfg0.N)
      (Proc.devRef .tc main_v1_3)) shapeCasts_S1x1_S_ from by
    generalize Pipeline.withArrays spec0 c (V0 m c) (fun w => (dats m 0 c).arrAt w cfg0.N) = X
    simp only [List.flatten_cons, List.flatten_nil, List.append_nil]
    after_results
    rfl]
  rw [e]

/-- The run, read: the four results at the shares of the running sums, the arguments unchanged. -/
theorem run : θ_run defs (onTc (τ := τ) (main (F := F))) ⟨m, fun _ => 0, ρ⟩ fun r => ∀ c : Dev nD,
    r.2.mem ((c : Thread nD τ).loc main_v2) = shapeCast S_ (k0_pay2 (upto m loss c 3 last_lt)) shapeCasts_S1x1_S_
    ∧ r.2.mem ((c : Thread nD τ).loc main_v3) = shapeCast S_ (k0_pay3 (upto m first c 3 last_lt)) shapeCasts_S1x1_S_
    ∧ r.2.mem ((c : Thread nD τ).loc main_v4) = shapeCast S_ (k0_pay4 (upto m five c 3 last_lt)) shapeCasts_S1x1_S_
    ∧ r.2.mem ((c : Thread nD τ).loc main_v5) = shapeCast S_ (k0_pay5 (upto m ten c 3 last_lt)) shapeCasts_S1x1_S_ :=
  (θ_run defs _ _).mono (fun _ h c =>
    ⟨((h c).2 main_v2 (Pipeline.mem_restRefs_of main_v2 (by decide) (by decide))).trans (tail_3 m c),
     ((h c).2 main_v3 (Pipeline.mem_restRefs_of main_v3 (by decide) (by decide))).trans (tail_4 m c),
     ((h c).2 main_v4 (Pipeline.mem_restRefs_of main_v4 (by decide) (by decide))).trans (tail_5 m c),
     ((h c).2 main_v5 (Pipeline.mem_restRefs_of main_v5 (by decide) (by decide))).trans (tail_6 m c)⟩)
    (run_main m ρ)

/-! ## The blocks -/

/-- A block of the input at a point: the columns of its 2048 rows. -/
theorem input_apply (c : Dev nD) (t : Fin cfg0.N) (ch : Fin 64) (l : Fin 2048) (h : 2048 * t.val + l.val < 8192) :
    (iblk m c 0 t : Vec F S1x64x2048 .f32) (ix3 0 ch l) = m ((c : Thread nD τ).loc main_arg0)
      (ix3 ⟨(2048 * t.val + l.val) / 4096, by omega⟩ ch ⟨(2048 * t.val + l.val) % 4096, by omega⟩) := by
  have hi : win0_0.index t 0 = t.val / 2 ∧ win0_0.index t 1 = 0 ∧ win0_0.index t 2 = t.val % 2 := by
    rcases fin_N0 t with rfl | rfl | rfl | rfl <;> decide
  unfold iblk
  rw [View.read_apply]
  show V m c main_arg0 _ = _
  rw [V_main_arg0]
  congr 1
  funext a
  apply Fin.ext
  have hl := l.isLt
  match a with
  | ⟨0, _⟩ => show win0_0.index t 0 * 1 + 1 * 0 = (2048 * t.val + l.val) / 4096; rw [hi.1]; omega
  | ⟨1, _⟩ => show win0_0.index t 1 * 64 + 1 * ch.val = ch.val; rw [hi.2.1]; omega
  | ⟨2, _⟩ => show win0_0.index t 2 * 2048 + 1 * l.val = (2048 * t.val + l.val) % 4096; rw [hi.2.2]; omega

/-- The block of the weights is the weights. -/
theorem weights_apply (c : Dev nD) (t : Fin cfg0.N) (v : Fin 4096) (ch : Fin 64) :
    (iblk m c 1 t : Vec F S4096x64 .f32) (ix2 v ch) = m ((c : Thread nD τ).loc main_arg3) (ix2 v ch) := by
  have hi : win0_1.index t 0 = 0 ∧ win0_1.index t 1 = 0 := by
    rcases fin_N0 t with rfl | rfl | rfl | rfl <;> decide
  unfold iblk
  rw [View.read_apply]
  show V m c main_arg3 _ = _
  rw [V_main_arg3]
  congr 1
  funext a
  apply Fin.ext
  match a with
  | ⟨0, _⟩ => show win0_1.index t 0 * 4096 + 1 * v.val = v.val; rw [hi.1]; omega
  | ⟨1, _⟩ => show win0_1.index t 1 * 64 + 1 * ch.val = ch.val; rw [hi.2]; omega

/-- The column of codes the region finds. -/
theorem codes_eq (c : Dev nD) : V m c main_v0
    = shapeCast S8192x1 (m ((c : Thread nD τ).loc main_arg1)) shapeCasts_S2x4096_S8192x1 := by
  show StableHlo.after (List.flatten [hostOps0]) (fun b => m (c, b)) (Proc.devRef .tc main_v0) = _
  simp only [List.flatten_cons, List.flatten_nil, List.append_nil]
  after_results
  rfl

/-- A block of the codes at a point: those of its 2048 rows. -/
theorem codes_apply (c : Dev nD) (t : Fin cfg0.N) (l : Fin 2048) (h : 2048 * t.val + l.val < 8192) :
    (iblk m c 2 t : Vec F S2048x1 .i32) (ix2 l 0)
      = shapeCast S8192x1 (m ((c : Thread nD τ).loc main_arg1)) shapeCasts_S2x4096_S8192x1 (ix2 ⟨2048 * t.val + l.val, h⟩ 0) := by
  have hi : win0_2.index t 0 = t.val ∧ win0_2.index t 1 = 0 := by
    rcases fin_N0 t with rfl | rfl | rfl | rfl <;> decide
  unfold iblk
  rw [View.read_apply]
  show V m c main_v0 _ = _
  rw [codes_eq]
  congr 1
  funext a
  apply Fin.ext
  match a with
  | ⟨0, _⟩ => show win0_2.index t 0 * 2048 + 1 * l.val = 2048 * t.val + l.val; rw [hi.1]; omega
  | ⟨1, _⟩ => show win0_2.index t 1 * 1 + 1 * 0 = 0; rw [hi.2]

end Cert.KernelIdeal.Out

end
-- ==== Proof.RowMath.lean ====
/-
  One row of logits, as extended reals: the rank of a class, what a sort, a first-maximum and a
  log-sum-exp over the row say about it, and the sums over the rows.
-/
module

public import Idealize.ShloMosaic.Lib.SortFacts
public import Idealize.ShloMosaic.Lib.Pointwise

@[expose] public section

namespace Cert.Row

open Idealize.ShloMosaic

/-! ## The rank of a class -/

variable {n : ℕ}

/-- Class `v` stands before class `k` in the row `a`: its value is greater, or equal with `v` the lower class. -/
def Beats (a : Fin n → EReal) (v k : Fin n) : Prop := a k < a v ∨ (a v = a k ∧ v < k)

open Classical in
/-- How many classes stand before class `k` in the row `a`. -/
noncomputable def rank (a : Fin n → EReal) (k : Fin n) : ℕ := (Finset.univ.filter fun v => Beats a v k).card

/-- No class stands before itself. -/
theorem not_beats_self (a : Fin n → EReal) (k : Fin n) : ¬Beats a k k := by
  rintro (h | ⟨-, h⟩) <;> exact lt_irrefl _ h

/-- Of two different classes one stands before the other. -/
theorem beats_total (a : Fin n → EReal) {v k : Fin n} (h : v ≠ k) : Beats a v k ∨ Beats a k v := by
  rcases lt_trichotomy (a v) (a k) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

/-- Not both of two classes stand before the other. -/
theorem beats_asymm (a : Fin n → EReal) {v k : Fin n} (h : Beats a v k) : ¬Beats a k v := by
  rcases h with h | ⟨h, h'⟩ <;> rintro (g | ⟨g, g'⟩)
  · exact lt_asymm h g
  · exact absurd g (ne_of_lt h)
  · exact absurd h (ne_of_lt g)
  · exact lt_asymm h' g'

/-- The rank is zero exactly where no class stands before. -/
theorem rank_eq_zero (a : Fin n → EReal) (k : Fin n) : rank a k = 0 ↔ ∀ v, ¬Beats a v k := by
  classical
  unfold rank
  rw [Finset.card_eq_zero, Finset.filter_eq_empty_iff]
  exact ⟨fun h v => h (Finset.mem_univ v), fun h v _ => h v⟩

/-! ## The descending sort of the row -/

/-- Putting class `x`, lower than every class of a list ordered by `Beats`, into that list keeps the order. -/
theorem insert_ordered (a : Fin n → EReal) (x : Fin n) (l : List (Fin n)) (hx : ∀ y ∈ l, x < y)
    (hl : l.Pairwise (Beats a)) : (insertBefore (fun p q => decide (a q < a p)) x l).Pairwise (Beats a) := by
  induction l with
  | nil => exact List.pairwise_singleton _ _
  | cons y l ih =>
    have ⟨hy, hl'⟩ := List.pairwise_cons.mp hl
    by_cases h : a x < a y
    · rw [insertBefore, if_pos (by simpa using h)]
      refine List.pairwise_cons.mpr ⟨fun z hz => ?_, ih (fun z hz => hx z (List.mem_cons_of_mem _ hz)) hl'⟩
      rcases List.mem_cons.mp ((perm_insertBefore _ x l).subset hz) with rfl | hz'
      · exact Or.inl h
      · exact hy z hz'
    · rw [insertBefore, if_neg (by simpa using h)]
      have hyx : a y ≤ a x := le_of_not_gt h
      refine List.pairwise_cons.mpr ⟨fun z hz => ?_, hl⟩
      have hzx : a z ≤ a x := by
        rcases List.mem_cons.mp hz with rfl | hz'
        · exact hyx
        · rcases hy z hz' with g | ⟨g, -⟩
          · exact g.le.trans hyx
          · exact g.symm.le.trans hyx
      rcases hzx.lt_or_eq with g | g
      · exact Or.inl g
      · exact Or.inr ⟨g.symm, hx z hz⟩

/-- The stable descending sort of an ascending list of classes is ordered by `Beats`. -/
theorem sort_ordered (a : Fin n → EReal) (l : List (Fin n)) (hl : l.Pairwise (· < ·)) :
    (stableSort (fun p q => decide (a q < a p)) l).Pairwise (Beats a) := by
  induction l with
  | nil => exact List.Pairwise.nil
  | cons x l ih =>
    have ⟨hx, hl'⟩ := List.pairwise_cons.mp hl
    exact insert_ordered a x _ (fun y hy => hx y ((perm_stableSort _ l).subset hy)) (ih hl')

/-- The class the descending sort puts at place `p`. -/
noncomputable def placed (a : Fin n → EReal) (p : Fin n) : Fin n := sortedFrom (fun p q => decide (a q < a p)) p

/-- An earlier place's class stands before a later place's. -/
theorem placed_mono (a : Fin n → EReal) {p q : Fin n} (h : p < q) : Beats a (placed a p) (placed a q) := by
  have := List.pairwise_iff_get.mp (sort_ordered a (List.finRange n) (List.pairwise_lt_finRange n))
  exact this (p.cast (length_sortPositions n _).symm) (q.cast (length_sortPositions n _).symm) h

/-- The class at place `p` has rank `p`. -/
theorem rank_placed (a : Fin n → EReal) (p : Fin n) : rank a (placed a p) = p.val := by
  classical
  have hinj : Function.Injective (placed a) := sortedFrom_injective _
  have hset : (Finset.univ.filter fun v => Beats a v (placed a p)) = (Finset.Iio p).image (placed a) := by
    ext v
    obtain ⟨q, rfl⟩ : ∃ q, placed a q = v := sortedFrom_surjective _ v
    simp only [Finset.mem_filter, Finset.mem_univ, true_and, Finset.mem_image, Finset.mem_Iio]
    constructor
    · intro h
      refine ⟨q, ?_, rfl⟩
      by_contra hq
      rcases (le_of_not_gt hq).lt_or_eq with g | g
      · exact beats_asymm a h (placed_mono a g)
      · exact not_beats_self a _ (g ▸ h)
    · rintro ⟨q', hq', e⟩
      exact e ▸ placed_mono a hq'
  unfold rank
  rw [hset, Finset.card_image_of_injective _ hinj, Fin.card_Iio]

/-- Class `k` is among the first `K` places exactly when its rank is below `K`. -/
theorem placed_lt_iff (a : Fin n → EReal) (k : Fin n) (K : ℕ) : (∃ p : Fin n, p.val < K ∧ placed a p = k) ↔ rank a k < K := by
  constructor
  · rintro ⟨p, hp, rfl⟩
    rwa [rank_placed]
  · intro h
    obtain ⟨p, rfl⟩ : ∃ p, placed a p = k := sortedFrom_surjective _ k
    exact ⟨p, by rwa [rank_placed] at h, rfl⟩

/-! ## The first maximum of the row -/

/-- One step of the running first maximum over (value, class) pairs: the left pair where its value is greater, or
    equal with the lower class, else the right pair. -/
noncomputable def firstMax (p q : EReal × BitVec 32) : EReal × BitVec 32 :=
  if q.1 < p.1 ∨ (p.1 = q.1 ∧ p.2.toInt < q.2.toInt) then p else q

/-- The running first maximum of a list ends at the start or at a pair of the list, and no pair of the list (nor the
    start) has a greater value, or the same value and a lower class. -/
theorem firstMax_foldl (l : List (EReal × BitVec 32)) (s : EReal × BitVec 32) :
    (l.foldl firstMax s = s ∨ l.foldl firstMax s ∈ l) ∧
      ∀ p, p = s ∨ p ∈ l → p.1 ≤ (l.foldl firstMax s).1 ∧
        (p.1 = (l.foldl firstMax s).1 → (l.foldl firstMax s).2.toInt ≤ p.2.toInt) := by
  induction l generalizing s with
  | nil =>
    refine ⟨Or.inl rfl, fun p hp => ?_⟩
    rcases hp with rfl | hp
    · exact ⟨le_rfl, fun _ => le_rfl⟩
    · simp at hp
  | cons x l ih =>
    rw [List.foldl_cons]
    obtain ⟨h1, h2⟩ := ih (firstMax s x)
    generalize hr : l.foldl firstMax (firstMax s x) = r at h1 h2
    have hm := h2 _ (Or.inl rfl)
    have hl := fun p hp => h2 p (Or.inr hp)
    by_cases c : x.1 < s.1 ∨ (s.1 = x.1 ∧ s.2.toInt < x.2.toInt)
    · have e : firstMax s x = s := if_pos c
      rw [e] at hm h1
      refine ⟨h1.imp id (List.mem_cons_of_mem _), ?_⟩
      rintro p (rfl | hp)
      · exact hm
      rcases List.mem_cons.mp hp with rfl | hp
      · rcases c with c | ⟨c, c'⟩
        · exact ⟨c.le.trans hm.1, fun g => absurd (g ▸ hm.1) (not_le.mpr c)⟩
        · exact ⟨c ▸ hm.1, fun g => (hm.2 (c.trans g)).trans c'.le⟩
      · exact hl p hp
    · have e : firstMax s x = x := if_neg c
      rw [e] at hm h1
      push Not at c
      refine ⟨Or.inr (h1.elim (fun g => g ▸ List.mem_cons_self) (List.mem_cons_of_mem _)), ?_⟩
      rintro p (rfl | hp)
      · refine ⟨c.1.trans hm.1, fun g => ?_⟩
        have hx : p.1 = x.1 := le_antisymm c.1 (g ▸ hm.1)
        exact (hm.2 (hx ▸ g)).trans (c.2 hx)
      rcases List.mem_cons.mp hp with rfl | hp
      · exact hm
      · exact hl p hp

/-- Over the pairs (value, class) of a row, started at (−∞, 0), the running first maximum ends at the class of rank
    zero. -/
theorem firstMax_row (hn : n ≤ 2 ^ 31) (hpos : 0 < n) (a : Fin n → EReal) (l : List (EReal × BitVec 32))
    (hl : ∀ p, p ∈ l ↔ ∃ v, p = (a v, BitVec.ofNat 32 v.val)) (k : Fin n) :
    (l.foldl firstMax (⊥, 0#32)).2 = BitVec.ofNat 32 k.val ↔ rank a k = 0 := by
  have hint : ∀ v : Fin n, (BitVec.ofNat 32 v.val).toInt = v.val := fun v => by
    have := v.isLt
    rw [BitVec.toInt_eq_toNat_of_lt] <;> rw [BitVec.toNat_ofNat, Nat.mod_eq_of_lt (by omega)] ; omega
  obtain ⟨h1, h2⟩ := firstMax_foldl l (⊥, 0#32)
  generalize l.foldl firstMax (⊥, 0#32) = r at h1 h2
  have hrow : ∀ v, a v ≤ r.1 ∧ (a v = r.1 → r.2.toInt ≤ (v.val : ℤ)) := fun v => by
    have := h2 (a v, BitVec.ofNat 32 v.val) (Or.inr ((hl _).mpr ⟨v, rfl⟩))
    rwa [hint] at this
  obtain ⟨w, hw1, hw2⟩ : ∃ w : Fin n, r.1 = a w ∧ r.2 = BitVec.ofNat 32 w.val := by
    rcases h1 with rfl | h1
    · exact ⟨⟨0, hpos⟩, (le_bot_iff.mp (hrow ⟨0, hpos⟩).1).symm, rfl⟩
    · obtain ⟨w, rfl⟩ := (hl _).mp h1
      exact ⟨w, rfl, rfl⟩
  have hbest : ∀ v, ¬Beats a v w := by
    intro v hv
    obtain ⟨g1, g2⟩ := hrow v
    rw [hw1] at g1 g2
    rw [hw2, hint] at g2
    rcases hv with hv | ⟨hv, hv'⟩
    · exact absurd g1 (not_le.mpr hv)
    · have := g2 hv
      have := Fin.lt_def.mp hv'
      omega
  rw [hw2, rank_eq_zero]
  constructor
  · intro h
    have := congrArg BitVec.toInt h
    rw [hint, hint] at this
    have e : w = k := Fin.ext (by exact_mod_cast this)
    exact e ▸ hbest
  · intro h
    by_contra hne
    rcases beats_total a (v := w) (k := k) (fun e => hne (by rw [e])) with g | g
    · exact h w g
    · exact hbest k g

/-! ## The log-sum-exp of the row -/

/-- A row's log of its sum of exponentials. -/
noncomputable def lse (a : Fin n → EReal) : EReal := Ideal.log (∑ v, Ideal.exp (a v))

/-- The amount a stable log-sum-exp subtracts: the row's maximum where it is finite, else zero. -/
noncomputable def shift (m : EReal) : EReal := if max m (-m) < ⊤ then m else 0

/-- The exponential of a value below infinity is a nonnegative real, positive where the value is finite; shifted by a
    real `r` it is scaled by `exp (-r)`. -/
theorem exp_split (x : EReal) (r : ℝ) (h : x ≤ (r : EReal)) :
    ∃ e : ℝ, 0 ≤ e ∧ Ideal.exp x = (e : EReal) ∧ Ideal.exp (x - (r : EReal)) = ((e * Real.exp (-r) : ℝ) : EReal)
      ∧ (x ≠ ⊥ → 0 < e) := by
  induction x using EReal.rec with
  | bot => exact ⟨0, le_rfl, rfl, by rw [EReal.bot_sub, zero_mul]; rfl, fun h => absurd rfl h⟩
  | top => exact absurd h (by simp)
  | coe s =>
    refine ⟨Real.exp s, (Real.exp_pos s).le, rfl, ?_, fun _ => Real.exp_pos s⟩
    rw [← EReal.coe_sub]
    show ((Real.exp (s - r) : ℝ) : EReal) = _
    rw [← Real.exp_add, sub_eq_add_neg]

/-- A sum of reals, as an extended real, is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- Subtracting the row's maximum before the exponentials and adding it back after the logarithm changes nothing. -/
theorem lse_shift (a : Fin n → EReal) (m : EReal) (hm : m = Finset.univ.fold max ⊥ a) :
    Ideal.log (∑ v, Ideal.exp (a v - shift m)) + shift m = lse a := by
  unfold lse
  have hle : ∀ v, a v ≤ m := fun v => hm ▸ (Finset.le_fold_max (a v)).mpr (Or.inr ⟨v, Finset.mem_univ v, le_rfl⟩)
  have hsup : m ≤ Finset.univ.fold max ⊥ a := hm.le
  clear hm
  induction m using EReal.rec with
  | bot => simp [shift]
  | top => simp [shift]
  | coe r =>
    have hs : shift (r : EReal) = (r : EReal) := by
      unfold shift
      rw [if_pos]
      rw [← EReal.coe_neg]
      exact max_lt (EReal.coe_lt_top r) (EReal.coe_lt_top _)
    rw [hs]
    choose e he0 he1 he2 he3 using fun v => exp_split (a v) r (hle v)
    obtain ⟨w, hw⟩ : ∃ w, a w ≠ ⊥ := by
      by_contra hall
      push Not at hall
      have : Finset.univ.fold max ⊥ a ≤ ⊥ := (Finset.fold_max_le ⊥).mpr ⟨le_rfl, fun v _ => (hall v).le⟩
      exact absurd (hsup.trans this) (by simp)
    have hpos : 0 < ∑ v, e v := Finset.sum_pos' (fun v _ => he0 v) ⟨w, Finset.mem_univ w, he3 w hw⟩
    have e1 : ∑ v, Ideal.exp (a v) = ((∑ v, e v : ℝ) : EReal) := by
      rw [coe_sum]; exact Finset.sum_congr rfl fun v _ => he1 v
    have e2 : ∑ v, Ideal.exp (a v - (r : EReal)) = (((∑ v, e v) * Real.exp (-r) : ℝ) : EReal) := by
      rw [Finset.sum_mul, coe_sum]; exact Finset.sum_congr rfl fun v _ => he2 v
    rw [e1, e2]
    show (if (∑ v, e v) * Real.exp (-r) ≤ 0 then (⊥ : EReal) else ((Real.log ((∑ v, e v) * Real.exp (-r)) : ℝ) : EReal)) + (r : EReal)
      = if (∑ v, e v) ≤ 0 then (⊥ : EReal) else ((Real.log (∑ v, e v) : ℝ) : EReal)
    rw [if_neg (not_le.mpr (mul_pos hpos (Real.exp_pos _))), if_neg (not_le.mpr hpos), ← EReal.coe_add,
      Real.log_mul hpos.ne' (Real.exp_pos _).ne', Real.log_exp]
    congr 1; ring

/-! ## The picked entry, and the sums -/

/-- The maximum of a row with every entry but one replaced by −∞ is that entry. -/
theorem masked_max (a : Fin n → EReal) (k : Fin n) (f : Fin n → EReal) (hk : f k = a k) (hf : ∀ v, v ≠ k → f v = ⊥) :
    Finset.univ.fold max ⊥ f = a k := by
  apply le_antisymm
  · refine (Finset.fold_max_le _).mpr ⟨bot_le, fun v _ => ?_⟩
    by_cases h : v = k
    · rw [h, hk]
    · rw [hf v h]; exact bot_le
  · exact (Finset.le_fold_max _).mpr (Or.inr ⟨k, Finset.mem_univ k, hk.ge⟩)

/-- One where the proposition holds, zero elsewhere. -/
noncomputable def ind (p : Prop) [Decidable p] : EReal := if p then 1 else 0

/-- The number of classes that stand before `k`, summed one by one, is the rank. -/
theorem sum_beats (a : Fin n → EReal) (k : Fin n) (f : Fin n → EReal)
    (h1 : ∀ v, Beats a v k → f v = 1) (h0 : ∀ v, ¬Beats a v k → f v = 0) : ∑ v, f v = ((rank a k : ℝ) : EReal) := by
  classical
  have e : ∀ v, f v = ((if Beats a v k then (1 : ℝ) else 0 : ℝ) : EReal) := fun v => by
    by_cases h : Beats a v k
    · rw [if_pos h, h1 v h]; rfl
    · rw [if_neg h, h0 v h]; rfl
  rw [Finset.sum_congr rfl fun v _ => e v, ← coe_sum, Finset.sum_boole]
  rfl

/-- A sum over 8192 rows is the sum over four tiles of 2048. -/
theorem sum_tiles (g : ℕ → EReal) :
    ∑ r : Fin 8192, g r.val = ∑ l : Fin 2048, g l.val + ∑ l : Fin 2048, g (2048 + l.val)
      + ∑ l : Fin 2048, g (4096 + l.val) + ∑ l : Fin 2048, g (6144 + l.val) := by
  rw [Finset.sum_fin_eq_sum_range, Finset.sum_fin_eq_sum_range, Finset.sum_fin_eq_sum_range, Finset.sum_fin_eq_sum_range,
    Finset.sum_fin_eq_sum_range]
  have h : ∀ (N : ℕ) (f : ℕ → EReal), (∑ i ∈ Finset.range N, if h : i < N then f i else 0) = ∑ i ∈ Finset.range N, f i :=
    fun N f => Finset.sum_congr rfl fun i hi => dif_pos (Finset.mem_range.mp hi)
  rw [h 8192 g, h 2048 g, h 2048 (fun l => g (2048 + l)), h 2048 (fun l => g (4096 + l)), h 2048 (fun l => g (6144 + l))]
  rw [show 8192 = 2048 + 2048 + 2048 + 2048 from rfl, Finset.sum_range_add, Finset.sum_range_add, Finset.sum_range_add]

end Cert.Row

end
-- ==== Proof.Words.lean ====
/-
  The constants' words as extended reals, and classes as 32-bit words.
-/
module

public import proofs.«01_k».proof.Proof.RowMath

@[expose] public section

namespace Cert.Row

open Idealize.ShloMosaic

/-! ## Words -/

/-- The word of minus infinity denotes it. -/
theorem word_bot : Ideal.ofBits .f32 0xFF800000#32 = ⊥ := by simp [Ideal.ofBits, Ideal.ieee]
/-- The word of infinity denotes it. -/
theorem word_top : Ideal.ofBits .f32 0x7F800000#32 = ⊤ := by simp [Ideal.ofBits, Ideal.ieee]
/-- The word of one denotes it. -/
theorem word_one : Ideal.ofBits .f32 0x3F800000#32 = 1 := by
  simp [Ideal.ofBits, Ideal.ieee, -EReal.coe_mul]; norm_num
/-- The word of 8192 denotes it. -/
theorem word_rows : Ideal.ofBits .f32 0x46000000#32 = ((8192 : ℝ) : EReal) := by
  simp [Ideal.ofBits, Ideal.ieee, -EReal.coe_mul]; norm_num

/-- A class, as a word, reads back as its number. -/
theorem class_toInt (c : Fin 4096) : (BitVec.ofNat 32 c.val).toInt = c.val := by
  have := c.isLt
  rw [BitVec.toInt_eq_toNat_of_lt] <;> rw [BitVec.toNat_ofNat, Nat.mod_eq_of_lt (by omega)] ; omega

/-- Two classes, as words, are equal exactly when they are the same class. -/
theorem class_inj (c d : Fin 4096) : BitVec.ofNat 32 c.val = BitVec.ofNat 32 d.val ↔ c = d := by
  refine ⟨fun h => ?_, fun h => by rw [h]⟩
  have := congrArg BitVec.toInt h
  rw [class_toInt, class_toInt] at this
  exact Fin.ext (by exact_mod_cast this)

/-- The word of five denotes it. -/
theorem word_five : Ideal.ofBits .f32 0x40A00000#32 = ((5 : ℝ) : EReal) := by
  simp [Ideal.ofBits, Ideal.ieee, -EReal.coe_mul]; norm_num
/-- The word of ten denotes it. -/
theorem word_ten : Ideal.ofBits .f32 0x41200000#32 = ((10 : ℝ) : EReal) := by
  simp [Ideal.ofBits, Ideal.ieee, -EReal.coe_mul]; norm_num
/-- The word of one over 8192 denotes it. -/
theorem word_share : Ideal.ofBits .f32 0x39000000#32 = (((8192 : ℝ)⁻¹ : ℝ) : EReal) := by
  simp [Ideal.ofBits, Ideal.ieee, -EReal.coe_mul]; norm_num

/-! ## Bits -/

/-- The bit of an equality of words is set exactly where they are equal. -/
theorem eq_bit {w : ℕ} (x y : BitVec w) : IntOp.cmpi .eq x y = 1#1 ↔ x = y := by
  show BitVec.ofBool (x == y) = 1#1 ↔ _
  have h : ∀ b : Bool, BitVec.ofBool b = 1#1 ↔ b = true := by decide
  rw [h, beq_iff_eq]

/-- A bit widened and read as a signed number: one where the statement it decides holds. -/
theorem wide_value (p : Prop) [Decidable p] (b : BitVec 1) (h : b = 1#1 ↔ p) :
    (FloatOps.sitofp (F := Ideal) .f32 (BitVec.setWidth 32 b) : EReal) = ind p := by
  unfold ind
  show (((BitVec.setWidth 32 b).toInt : ℝ) : EReal) = _
  rcases (by decide : ∀ b : BitVec 1, b = 0#1 ∨ b = 1#1) b with rfl | rfl
  · rw [if_neg (fun hp => absurd (h.mpr hp) (by decide)), show (BitVec.setWidth 32 0#1).toInt = 0 from by decide]; simp
  · rw [if_pos (h.mp rfl), show (BitVec.setWidth 32 1#1).toInt = 1 from by decide]; simp

/-- The bit deciding a statement is set exactly where it holds. -/
theorem decide_bit (p : Prop) [Decidable p] : BitVec.ofBool (decide p) = 1#1 ↔ p := by
  have h : ∀ b : Bool, BitVec.ofBool b = 1#1 ↔ b = true := by decide
  rw [h, decide_eq_true_iff]

end Cert.Row

end
-- ==== Proof.KerBlock.lean ====
/-
  What one grid step of the kernel computes from its blocks, over the extended reals.
-/
module

public import proofs.«01_k».proof.Proof.Gen.KernelIdeal.Skeleton
public import proofs.«01_k».proof.Proof.Words
public import Idealize.ShloMosaic.Lib.IdealHost

@[expose] public section

set_option maxRecDepth 16384

namespace Cert.KernelIdeal.Block

open Idealize.ShloMosaic
open Cert.KernelIdeal Cert.KernelIdeal.Facts₀

/-! ## One lane of a block -/

/-- The logits of lane `l`: the products of its column of the block with the rows of the weights. -/
noncomputable def row (x : FVec Ideal S1x64x2048 .f32) (w : FVec Ideal S4096x64 .f32) (l : Fin 2048) (v : Fin 4096) : EReal :=
  ∑ c : Fin 64, x (ix3 0 c l) * w (ix2 v c)

/-- The block's logits, entry by entry. -/
theorem logits_apply (x : FVec Ideal S1x64x2048 .f32) (w : FVec Ideal S4096x64 .f32) (l : Fin 2048) (v : Fin 4096) :
    Gen.k0_pay7 (F := Ideal) x w (ix2 l v) = row x w l v := by
  unfold row
  pointwise [Gen.k0_pay7]

/-- Logits kept at the code's class, minus infinity elsewhere. -/
noncomputable def masked (L : FVec Ideal S2048x4096 .f32) (k : IVec S2048x1 32) : FVec Ideal S2048x4096 .f32 :=
  select (cmpi .eq (iota .tc S2048x4096 32 [1] iota_S2048x4096_d1_w32)
    (broadcastTo S2048x4096 (Gen.k0_pay8 (F := Ideal) k) broadcasts_S2048x1_S2048x4096)) L
    (broadcast S2048x4096 (Scalar.ofBits .f32 0xFF800000#32))

/-- The masked logits at an entry: the logit at the code's class, minus infinity at any other. -/
theorem masked_apply (L : FVec Ideal S2048x4096 .f32) (k : IVec S2048x1 32) (l : Fin 2048) (v c : Fin 4096)
    (hk : k (ix2 l 0) = BitVec.ofNat 32 c.val) : masked L k (ix2 l v) = if v = c then L (ix2 l v) else ⊥ := by
  pointwise [masked, Gen.k0_pay8]
  rw [hk, Row.word_bot]
  by_cases h : v = c
  · rw [if_pos h, (Row.eq_bit _ _).mpr ((Row.class_inj v c).mpr h)]; rfl
  · rw [if_neg h]
    have h0 : ∀ b : BitVec 1, b ≠ 1#1 → b = 0#1 := by decide
    rw [h0 _ fun e => h ((Row.class_inj v c).mp ((Row.eq_bit _ _).mp e))]; rfl

/-- The greatest entry of a row. -/
theorem fold_apply (L : FVec Ideal S2048x4096 .f32) (l : Fin 2048) :
    (multiReduction .maximumf [1] S2048 L 0xFF800000#32 reduces_S2048x4096_S2048 (.inl rfl) rfl : FVec Ideal S2048 .f32) (ix1 l)
      = Finset.univ.fold max ⊥ fun v => L (ix2 l v) := by
  pointwise []
  rw [Row.word_bot]

/-- A vector bounded below by minus infinity is itself, as a column. -/
theorem column_apply (m : FVec Ideal S2048 .f32) (l : Fin 2048) (z : Fin 1) :
    shapeCast S2048x1 (maximumf (broadcast S2048 (Scalar.ofBits (F := Ideal) .f32 0xFF800000#32)) m) shapeCasts_S2048_S2048x1
      (ix2 l z) = m (ix1 l) := by
  pointwise []
  rw [Row.word_bot]
  exact max_eq_right bot_le

/-- The greatest entry of a row of the masked logits, as the kernel's column holds it. -/
theorem greatest_apply (L : FVec Ideal S2048x4096 .f32) (l : Fin 2048) (z : Fin 1) :
    shapeCast S2048x1 (maximumf (broadcast S2048 (Scalar.ofBits (F := Ideal) .f32 0xFF800000#32))
      (multiReduction .maximumf [1] S2048 L 0xFF800000#32 reduces_S2048x4096_S2048 (.inl rfl) rfl)) shapeCasts_S2048_S2048x1
      (ix2 l z) = Finset.univ.fold max ⊥ fun v => L (ix2 l v) :=
  (column_apply _ l z).trans (fold_apply L l)

/-- The kernel's target logit is the logit at the code's class. -/
theorem target_apply (x : FVec Ideal S1x64x2048 .f32) (w : FVec Ideal S4096x64 .f32) (k : IVec S2048x1 32) (l : Fin 2048)
    (z : Fin 1) (c : Fin 4096) (hk : k (ix2 l 0) = BitVec.ofNat 32 c.val) :
    Gen.k0_pay9 (F := Ideal) x w k (ix2 l z) = row x w l c := by
  refine (greatest_apply (masked (Gen.k0_pay7 (F := Ideal) x w) k) l z).trans ?_
  refine Row.masked_max (row x w l) c _ ?_ fun v hv => ?_
  · rw [masked_apply _ _ _ _ _ hk, if_pos rfl, logits_apply]
  · rw [masked_apply _ _ _ _ _ hk, if_neg hv]

/-- The kernel's count of the classes that stand before the code's is its rank. -/
theorem rank_apply (x : FVec Ideal S1x64x2048 .f32) (w : FVec Ideal S4096x64 .f32) (k : IVec S2048x1 32) (l : Fin 2048)
    (z : Fin 1) (c : Fin 4096) (hk : k (ix2 l 0) = BitVec.ofNat 32 c.val) :
    Gen.k0_pay10 (F := Ideal) x w k (ix2 l z) = ((Row.rank (row x w l) c : ℝ) : EReal) := by
  have hT := target_apply x w k l 0 c hk
  have hL := logits_apply x w l
  unfold Gen.k0_pay10
  generalize Gen.k0_pay9 (F := Ideal) x w k = T at hT ⊢
  generalize Gen.k0_pay7 (F := Ideal) x w = L at hL ⊢
  pointwise [Gen.k0_pay8]
  rw [hT, hk]
  classical
  have key : ∀ v : Fin 4096, (IntOp.ori (BitVec.ofBool (decide (row x w l c < L (ix2 l v))))
      (IntOp.andi (BitVec.ofBool (decide (L (ix2 l v) = row x w l c)))
        (IntOp.cmpi CmpIPredicate.slt (BitVec.ofNat 32 v.val) (BitVec.ofNat 32 c.val)))) = 1#1 ↔ Row.Beats (row x w l) v c := fun v => by
    have ho : ∀ a b : BitVec 1, IntOp.ori a b = 1#1 ↔ a = 1#1 ∨ b = 1#1 := by decide
    have ha : ∀ a b : BitVec 1, IntOp.andi a b = 1#1 ↔ a = 1#1 ∧ b = 1#1 := by decide
    have hs : IntOp.cmpi CmpIPredicate.slt (BitVec.ofNat 32 v.val) (BitVec.ofNat 32 c.val) = 1#1 ↔ v < c := by
      show BitVec.ofBool (BitVec.slt _ _) = 1#1 ↔ _
      rw [BitVec.slt_eq_decide, Row.decide_bit, Row.class_toInt, Row.class_toInt, Nat.cast_lt]; rfl
    rw [ho, ha, Row.decide_bit, Row.decide_bit, hs, hL]; rfl
  refine Row.sum_beats (row x w l) c _ (fun v hv => ?_) fun v hv => ?_
  · rw [Row.wide_value _ _ (key v)]; exact if_pos hv
  · rw [Row.wide_value _ _ (key v)]; exact if_neg hv

/-! ## One step's sums -/

/-- A step's loss: the log-sum-exp less the code's logit, summed over the lanes. -/
theorem loss_apply (x : FVec Ideal S1x64x2048 .f32) (w : FVec Ideal S4096x64 .f32) (k : IVec S2048x1 32)
    (κ : Fin 2048 → Fin 4096) (hk : ∀ l, k (ix2 l 0) = BitVec.ofNat 32 (κ l).val) (a b c : Fin 1) :
    Gen.k0_pay12 (F := Ideal) x w k (ix3 a b c) = ∑ l, (Row.lse (row x w l) - row x w l (κ l)) := by
  have hT := fun l => target_apply x w k l 0 (κ l) (hk l)
  have hL := logits_apply x w
  unfold Gen.k0_pay12
  generalize Gen.k0_pay9 (F := Ideal) x w k = T at hT ⊢
  generalize Gen.k0_pay7 (F := Ideal) x w = L at hL ⊢
  pointwise []
  refine Finset.sum_congr rfl fun l _ => ?_
  rw [Fin.sum_univ_one, hT]
  simp only [hL]
  rfl

/-- The rank column of a step is the ranks of its codes. -/
def Ranks (rk : FVec Ideal S2048x1 .f32) (ρ : Fin 2048 → ℕ) : Prop := ∀ l z, rk (ix2 l z) = ((ρ l : ℝ) : EReal)

open Classical in
/-- A step's first-place hits added to a running count. -/
theorem first_apply (rk : FVec Ideal S2048x1 .f32) (ρ : Fin 2048 → ℕ) (h : Ranks rk ρ) (o : FVec Ideal S1x1 .f32) (a b : Fin 1) :
    Gen.k0_pay14 (F := Ideal) rk o (ix2 a b) = o (ix2 a b) + ∑ l, Row.ind (ρ l = 0) := by
  pointwise [Gen.k0_pay14]
  refine congrArg _ (Finset.sum_congr rfl fun l _ => ?_)
  rw [Fin.sum_univ_one]
  refine Row.wide_value _ _ ((Row.decide_bit _).trans ?_)
  rw [h]
  exact_mod_cast Iff.rfl

open Classical in
/-- A step's first-five hits added to a running count. -/
theorem five_apply (rk : FVec Ideal S2048x1 .f32) (ρ : Fin 2048 → ℕ) (h : Ranks rk ρ) (o : FVec Ideal S1x1 .f32) (a b : Fin 1) :
    Gen.k0_pay15 (F := Ideal) rk o (ix2 a b) = o (ix2 a b) + ∑ l, Row.ind (ρ l < 5) := by
  pointwise [Gen.k0_pay15]
  refine congrArg _ (Finset.sum_congr rfl fun l _ => ?_)
  rw [Fin.sum_univ_one]
  refine Row.wide_value _ _ ((Row.decide_bit _).trans ?_)
  rw [h, Row.word_five]
  exact_mod_cast Iff.rfl

open Classical in
/-- A step's first-ten hits. -/
theorem ten_apply (rk : FVec Ideal S2048x1 .f32) (ρ : Fin 2048 → ℕ) (h : Ranks rk ρ) (a b c : Fin 1) :
    Gen.k0_pay17 (F := Ideal) rk (ix3 a b c) = ∑ l, Row.ind (ρ l < 10) := by
  pointwise [Gen.k0_pay17]
  refine Finset.sum_congr rfl fun l _ => ?_
  rw [Fin.sum_univ_one]
  refine Row.wide_value _ _ ((Row.decide_bit _).trans ?_)
  rw [h, Row.word_ten]
  exact_mod_cast Iff.rfl

/-- A running sum, a step's added. -/
theorem add13_apply (o : FVec Ideal S1x1 .f32) (s : FVec Ideal S1x1x1 .f32) (a b : Fin 1) :
    Gen.k0_pay13 (F := Ideal) o s (ix2 a b) = o (ix2 a b) + s (ix3 0 0 0) := by
  pointwise [Gen.k0_pay13]

/-- A running sum, a step's added. -/
theorem add1_apply (o : FVec Ideal S1x1 .f32) (s : FVec Ideal S1x1x1 .f32) (a b : Fin 1) :
    Gen.k0_pay1 (F := Ideal) o s (ix2 a b) = o (ix2 a b) + s (ix3 0 0 0) := by
  pointwise [Gen.k0_pay1]

/-- The running sums start at zero. -/
theorem zero_apply (a b : Fin 1) : Gen.k0_pay6 (F := Ideal) (ix2 a b) = 0 := by
  pointwise [Gen.k0_pay6]

/-- A final sum's share. -/
theorem share2_apply (o : FVec Ideal S1x1 .f32) (a b : Fin 1) :
    Gen.k0_pay2 (F := Ideal) o (ix2 a b) = o (ix2 a b) * (((8192 : ℝ)⁻¹ : ℝ) : EReal) := by
  pointwise [Gen.k0_pay2]
  rw [Row.word_share]

/-- A final sum's share. -/
theorem share3_apply (o : FVec Ideal S1x1 .f32) (a b : Fin 1) :
    Gen.k0_pay3 (F := Ideal) o (ix2 a b) = o (ix2 a b) * (((8192 : ℝ)⁻¹ : ℝ) : EReal) := by
  pointwise [Gen.k0_pay3]
  rw [Row.word_share]

/-- A final sum's share. -/
theorem share4_apply (o : FVec Ideal S1x1 .f32) (a b : Fin 1) :
    Gen.k0_pay4 (F := Ideal) o (ix2 a b) = o (ix2 a b) * (((8192 : ℝ)⁻¹ : ℝ) : EReal) := by
  pointwise [Gen.k0_pay4]
  rw [Row.word_share]

/-- A final sum's share. -/
theorem share5_apply (o : FVec Ideal S1x1 .f32) (a b : Fin 1) :
    Gen.k0_pay5 (F := Ideal) o (ix2 a b) = o (ix2 a b) * (((8192 : ℝ)⁻¹ : ℝ) : EReal) := by
  pointwise [Gen.k0_pay5]
  rw [Row.word_share]

end Cert.KernelIdeal.Block

end
-- ==== Proof.KerValue.lean ====
/-
  What the kernel's four results are, as means over the 8192 rows.
-/
module

public import proofs.«01_k».proof.Proof.KerRun
public import proofs.«01_k».proof.Proof.KerBlock

@[expose] public section

set_option maxRecDepth 16384

noncomputable section

namespace Cert.Row

open Idealize.ShloMosaic

/-- A row's logits: the input's column at the row's place, against each class's weights. -/
def logit (x : FVec Ideal ⟨3, ![2, 64, 4096]⟩ .f32) (w : FVec Ideal ⟨2, ![4096, 64]⟩ .f32) (r : Fin 8192) (v : Fin 4096) : EReal :=
  ∑ c : Fin 64, x (ix3 ⟨r.val / 4096, by omega⟩ c ⟨r.val % 4096, by omega⟩) * w (ix2 v c)

/-- The class that each row's code names. -/
def Names (k : IVec ⟨2, ![2, 4096]⟩ 32) (κ : Fin 8192 → Fin 4096) : Prop :=
  ∀ r : Fin 8192, k (ix2 ⟨r.val / 4096, by omega⟩ ⟨r.val % 4096, by omega⟩) = BitVec.ofNat 32 (κ r).val

/-- A mean over the 8192 rows. -/
def average (g : Fin 8192 → EReal) : EReal := Ideal.div (∑ r, g r) ((8192 : ℝ) : EReal)

/-- The share of a sum over the rows is their mean. -/
theorem share_eq (g : Fin 8192 → EReal) : (∑ r, g r) * (((8192 : ℝ)⁻¹ : ℝ) : EReal) = average g := by
  rw [average, Ideal.div_coe (by norm_num), one_div]

/-- A sum over the rows, tile by tile. -/
theorem sum_blocks (g : Fin 8192 → EReal) :
    ∑ r, g r = ∑ l : Fin 2048, g ⟨2048 * 0 + l.val, by omega⟩ + ∑ l : Fin 2048, g ⟨2048 * 1 + l.val, by omega⟩
      + ∑ l : Fin 2048, g ⟨2048 * 2 + l.val, by omega⟩ + ∑ l : Fin 2048, g ⟨2048 * 3 + l.val, by omega⟩ := by
  have h := sum_tiles fun n => if hn : n < 8192 then g ⟨n, hn⟩ else 0
  have e : ∀ r : Fin 8192, (if hn : r.val < 8192 then g ⟨r.val, hn⟩ else 0) = g r := fun r => dif_pos r.isLt
  simp only [e] at h
  rw [h]
  refine congrArg₂ (· + ·) (congrArg₂ (· + ·) (congrArg₂ (· + ·) ?_ ?_) ?_) ?_
  all_goals
    refine Finset.sum_congr rfl fun l _ => ?_
    rw [dif_pos (by omega)]
  simp

end Cert.Row

namespace Cert.KernelIdeal.Out

open Idealize.ShloMosaic Idealize.ShloMosaic.TcCoe
open Cert.KernelIdeal Cert.KernelIdeal.Gen
open Cert.KernelIdeal.Block (row)
open Cert.Row (logit Names average)

variable (m : (ℓ : Loc nD τ sig) → Buf (Elt Ideal) ℓ) (c : Dev nD)

/-- A lane's row number, at a point. -/
theorem lane_lt (t : Fin cfg0.N) (l : Fin 2048) : 2048 * t.val + l.val < 8192 := by
  have hN : cfg0.N = 4 := N_0
  have := t.isLt
  omega

/-- A step adds, to a running sum, what its rows contribute. -/
def Adds (f : Step Ideal) (g : Fin 8192 → EReal) : Prop :=
  ∀ (t : Fin cfg0.N) (o : Vec Ideal S1x1 .f32) (a b : Fin 1),
    f (iblk m c 0 t) (iblk m c 1 t) (iblk m c 2 t) o (ix2 a b) = o (ix2 a b) + ∑ l : Fin 2048, g ⟨2048 * t.val + l.val, lane_lt t l⟩

/-- A running sum, after the last point, is the sum over every row. -/
theorem upto_apply (f : Step Ideal) (g : Fin 8192 → EReal) (h : Adds m c f g) (a b : Fin 1) :
    upto m f c 3 last_lt (ix2 a b) = ∑ r, g r := by
  rw [upto, h, upto, h, upto, h, upto, h, Block.zero_apply, zero_add, Row.sum_blocks]

variable (κ : Fin 8192 → Fin 4096)

/-- A lane's logits are its row's. -/
theorem row_eq (t : Fin cfg0.N) (l : Fin 2048) : row (iblk m c 0 t) (iblk m c 1 t) l
    = logit (m ((c : Thread nD τ).loc main_arg0)) (m ((c : Thread nD τ).loc main_arg3)) ⟨2048 * t.val + l.val, lane_lt t l⟩ := by
  funext v
  unfold row logit
  refine Finset.sum_congr rfl fun ch _ => ?_
  rw [input_apply m c t ch l (lane_lt t l), weights_apply m c t v ch]

/-- The column of codes, row by row. -/
theorem column_code (k : IVec S2x4096 32) (r : Fin 8192) :
    shapeCast S8192x1 k shapeCasts_S2x4096_S8192x1 (ix2 r 0) = k (ix2 ⟨r.val / 4096, by omega⟩ ⟨r.val % 4096, by omega⟩) := by
  pointwise []

/-- A lane's code is its row's class. -/
theorem code_eq (hκ : Names (m ((c : Thread nD τ).loc main_arg1)) κ) (t : Fin cfg0.N) (l : Fin 2048) :
    (iblk m c 2 t : Vec Ideal S2048x1 .i32) (ix2 l 0) = BitVec.ofNat 32 (κ ⟨2048 * t.val + l.val, lane_lt t l⟩).val := by
  rw [codes_apply m c t l (lane_lt t l), column_code]
  exact hκ _

/-- A lane's rank, as the kernel counts it, is its row's. -/
theorem ranks_eq (hκ : Names (m ((c : Thread nD τ).loc main_arg1)) κ) (t : Fin cfg0.N) :
    Block.Ranks (k0_pay10 (F := Ideal) (iblk m c 0 t) (iblk m c 1 t) (iblk m c 2 t)) fun l =>
      Row.rank (logit (m ((c : Thread nD τ).loc main_arg0)) (m ((c : Thread nD τ).loc main_arg3)) ⟨2048 * t.val + l.val, lane_lt t l⟩)
        (κ ⟨2048 * t.val + l.val, lane_lt t l⟩) := fun l z => by
  rw [Block.rank_apply _ _ _ l z _ (code_eq m c κ hκ t l), row_eq]

/-- What a row contributes to the loss. -/
abbrev lossRow (r : Fin 8192) : EReal :=
  let a := logit (m ((c : Thread nD τ).loc main_arg0)) (m ((c : Thread nD τ).loc main_arg3)) r
  Row.lse a - a (κ r)

/-- A row's rank. -/
abbrev rankRow (r : Fin 8192) : ℕ :=
  Row.rank (logit (m ((c : Thread nD τ).loc main_arg0)) (m ((c : Thread nD τ).loc main_arg3)) r) (κ r)

/-- The loss's step adds its rows' losses. -/
theorem loss_adds (hκ : Names (m ((c : Thread nD τ).loc main_arg1)) κ) : Adds m c loss (lossRow m c κ) := fun t o a b => by
  unfold loss
  rw [Block.add13_apply, Block.loss_apply _ _ _ _ (code_eq m c κ hκ t)]
  refine congrArg₂ (· + ·) (by pointwise [k0_pay11]) (Finset.sum_congr rfl fun l _ => ?_)
  rw [row_eq]

open Classical in
/-- The first places' step adds one for each of its rows of rank zero. -/
theorem first_adds (hκ : Names (m ((c : Thread nD τ).loc main_arg1)) κ) :
    Adds m c first fun r => Row.ind (rankRow m c κ r = 0) := fun t o a b => by
  unfold first
  exact Block.first_apply _ _ (ranks_eq m c κ hκ t) o a b

open Classical in
/-- The first fives' step adds one for each of its rows of rank below five. -/
theorem five_adds (hκ : Names (m ((c : Thread nD τ).loc main_arg1)) κ) :
    Adds m c five fun r => Row.ind (rankRow m c κ r < 5) := fun t o a b => by
  unfold five
  exact Block.five_apply _ _ (ranks_eq m c κ hκ t) o a b

open Classical in
/-- The first tens' step adds one for each of its rows of rank below ten. -/
theorem ten_adds (hκ : Names (m ((c : Thread nD τ).loc main_arg1)) κ) :
    Adds m c ten fun r => Row.ind (rankRow m c κ r < 10) := fun t o a b => by
  unfold ten
  rw [Block.add1_apply, Block.ten_apply _ _ (ranks_eq m c κ hκ t)]
  exact congrArg₂ (· + ·) (by pointwise [k0_pay16]) rfl

/-- A one-by-one array as a scalar. -/
theorem scalar_apply (o : FVec Ideal S1x1 .f32) (j : S_.Idx) : shapeCast S_ o shapeCasts_S1x1_S_ j = o (ix2 0 0) := by
  obtain rfl : j = ix0 := funext fun a => a.elim0
  pointwise []

/-- The first result is the mean of the rows' losses. -/
theorem loss_mean (hκ : Names (m ((c : Thread nD τ).loc main_arg1)) κ) :
    shapeCast S_ (k0_pay2 (F := Ideal) (upto m loss c 3 last_lt)) shapeCasts_S1x1_S_ = fun _ => average (lossRow m c κ) := funext fun j => by
  rw [scalar_apply, Block.share2_apply, upto_apply m c loss _ (loss_adds m c κ hκ), Row.share_eq]

open Classical in
/-- The second result is the share of the rows of rank zero. -/
theorem first_mean (hκ : Names (m ((c : Thread nD τ).loc main_arg1)) κ) :
    shapeCast S_ (k0_pay3 (F := Ideal) (upto m first c 3 last_lt)) shapeCasts_S1x1_S_
      = fun _ => average fun r => Row.ind (rankRow m c κ r = 0) := funext fun j => by
  rw [scalar_apply, Block.share3_apply, upto_apply m c first _ (first_adds m c κ hκ), Row.share_eq]

open Classical in
/-- The third result is the share of the rows of rank below five. -/
theorem five_mean (hκ : Names (m ((c : Thread nD τ).loc main_arg1)) κ) :
    shapeCast S_ (k0_pay4 (F := Ideal) (upto m five c 3 last_lt)) shapeCasts_S1x1_S_
      = fun _ => average fun r => Row.ind (rankRow m c κ r < 5) := funext fun j => by
  rw [scalar_apply, Block.share4_apply, upto_apply m c five _ (five_adds m c κ hκ), Row.share_eq]

open Classical in
/-- The fourth result is the share of the rows of rank below ten. -/
theorem ten_mean (hκ : Names (m ((c : Thread nD τ).loc main_arg1)) κ) :
    shapeCast S_ (k0_pay5 (F := Ideal) (upto m ten c 3 last_lt)) shapeCasts_S1x1_S_
      = fun _ => average fun r => Row.ind (rankRow m c κ r < 10) := funext fun j => by
  rw [scalar_apply, Block.share5_apply, upto_apply m c ten _ (ten_adds m c κ hκ), Row.share_eq]

end Cert.KernelIdeal.Out

end
-- ==== Proof.RefRun.lean ====
/-
  The reference's run. Its @main is a straight line of host operations; it is cut here into seven windows, and what each
  window computes is named as a function of the buffers that it reads.
-/
module

public import proofs.«01_k».proof.Proof.Gen.ReferenceIdeal
public import Idealize.ShloMosaic.Lib.StableHlo.Run
public import Idealize.ShloMosaic.Lib.StableHlo.RunHlo
public import Idealize.ShloMosaic.Lib.Pipeline.Frame

@[expose] public section

set_option Elab.async false

noncomputable section

namespace Cert.ReferenceIdeal.Run

open Idealize.ShloMosaic Idealize.ShloMosaic.StableHlo Idealize.SL.Sem
open Cert.ReferenceIdeal Cert.ReferenceIdeal.Facts₀

variable {F : FTy → Type} [FloatOps F]

/-! ## The windows -/

/-- The operations that compute the logits as rows and the codes as rows. -/
abbrev ops0 : List (HloOp τ sig (Elt F)) :=
  [ StableHlo.unary main_arg0 main_v0 ((transpose S2x4096x64 [0, 2, 1] · transposes_S2x64x4096_S2x4096x64_0_2_1) : (⟨S2x64x4096, .f32⟩ : BufTy).Contents (Elt F) → (⟨S2x4096x64, .f32⟩ : BufTy).Contents (Elt F)),
    StableHlo.binary main_v0 main_arg3 main_v1 ((fun l r => Host.dotGeneral dot_S2x4096x64_S4096x64_S2x4096x4096_2_1_01_0_n_n none l r) : (⟨S2x4096x64, .f32⟩ : BufTy).Contents (Elt F) → (⟨S4096x64, .f32⟩ : BufTy).Contents (Elt F) → (⟨S2x4096x4096, .f32⟩ : BufTy).Contents (Elt F)),
    StableHlo.unary main_arg4 main_v2 (broadcastInDim S1x1x4096 ![2] bcast_S4096_S1x1x4096_2 : (⟨S4096, .f32⟩ : BufTy).Contents (Elt F) → (⟨S1x1x4096, .f32⟩ : BufTy).Contents (Elt F)),
    StableHlo.unary main_v2 main_v3 (broadcastInDim S2x4096x4096 ![0, 1, 2] bcast_S1x1x4096_S2x4096x4096_0_1_2 : (⟨S1x1x4096, .f32⟩ : BufTy).Contents (Elt F) → (⟨S2x4096x4096, .f32⟩ : BufTy).Contents (Elt F)),
    StableHlo.binary main_v1 main_v3 main_v4 (addf : (⟨S2x4096x4096, .f32⟩ : BufTy).Contents (Elt F) → (⟨S2x4096x4096, .f32⟩ : BufTy).Contents (Elt F) → (⟨S2x4096x4096, .f32⟩ : BufTy).Contents (Elt F)),
    StableHlo.reshape main_v4 main_v5 (rfl : (.f32 : EltTy) = .f32) shapeCasts_S2x4096x4096_S8192x4096,
    StableHlo.reshape main_arg1 main_v6 (rfl : (.i32 : EltTy) = .i32) shapeCasts_S2x4096_S8192 ]

/-- The operations that compute the log of the sum of exponentials of every row. -/
abbrev ops1 : List (HloOp τ sig (Elt F)) :=
  [ StableHlo.nullary main_cst (constant S_ .f32 0xFF800000#32),
    StableHlo.binary main_v5 main_cst main_v7 ((fun x v => Host.reduce FloatOps.maximumf x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    StableHlo.unary main_v7 main_v8 (Host.absf : (⟨S8192, .f32⟩ : BufTy).Contents (Elt F) → (⟨S8192, .f32⟩ : BufTy).Contents (Elt F)),
    StableHlo.nullary main_cst_0 (constant S_ .f32 0x7F800000#32),
    StableHlo.unary main_cst_0 main_v9 (broadcastInDim S8192 ![] bcast_S_S8192 : (⟨S_, .f32⟩ : BufTy).Contents (Elt F) → (⟨S8192, .f32⟩ : BufTy).Contents (Elt F)),
    StableHlo.binary main_v8 main_v9 main_v10 (cmpf .olt : (⟨S8192, .f32⟩ : BufTy).Contents (Elt F) → (⟨S8192, .f32⟩ : BufTy).Contents (Elt F) → (⟨S8192, .i1⟩ : BufTy).Contents (Elt F)),
    StableHlo.nullary main_cst_1 (constant S_ .f32 0x00000000#32),
    StableHlo.unary main_cst_1 main_call0_v0 (id : (⟨S_, .f32⟩ : BufTy).Contents (Elt F) → (⟨S_, .f32⟩ : BufTy).Contents (Elt F)),
    StableHlo.unary main_call0_v0 main_call0_v1 ((broadcastInDim S8192 ![] bcast_S_S8192) : (⟨S_, .f32⟩ : BufTy).Contents (Elt F) → (⟨S8192, .f32⟩ : BufTy).Contents (Elt F)),
    StableHlo.ternary main_v10 main_v7 main_call0_v1 main_v11 (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F)),
    StableHlo.unary main_v11 main_v12 (broadcastInDim S8192x1 ![0] bcast_S8192_S8192x1_0 : (⟨S8192, .f32⟩ : BufTy).Contents (Elt F) → (⟨S8192x1, .f32⟩ : BufTy).Contents (Elt F)),
    StableHlo.unary main_v12 main_v13 (broadcastInDim S8192x4096 ![0, 1] bcast_S8192x1_S8192x4096_0_1 : (⟨S8192x1, .f32⟩ : BufTy).Contents (Elt F) → (⟨S8192x4096, .f32⟩ : BufTy).Contents (Elt F)),
    StableHlo.binary main_v5 main_v13 main_v14 (subf : (⟨S8192x4096, .f32⟩ : BufTy).Contents (Elt F) → (⟨S8192x4096, .f32⟩ : BufTy).Contents (Elt F) → (⟨S8192x4096, .f32⟩ : BufTy).Contents (Elt F)),
    StableHlo.unary main_v14 main_v15 (Host.exp : (⟨S8192x4096, .f32⟩ : BufTy).Contents (Elt F) → (⟨S8192x4096, .f32⟩ : BufTy).Contents (Elt F)),
    StableHlo.nullary main_cst_2 (constant S_ .f32 0x00000000#32),
    StableHlo.binary main_v15 main_cst_2 main_v16 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    StableHlo.unary main_v16 main_v17 (Host.log : (⟨S8192, .f32⟩ : BufTy).Contents (Elt F) → (⟨S8192, .f32⟩ : BufTy).Contents (Elt F)),
    StableHlo.binary main_v17 main_v11 main_v18 (addf : (⟨S8192, .f32⟩ : BufTy).Contents (Elt F) → (⟨S8192, .f32⟩ : BufTy).Contents (Elt F) → (⟨S8192, .f32⟩ : BufTy).Contents (Elt F)) ]

/-- The operations that compute the entry of every row at its code. -/
abbrev ops2 : List (HloOp τ sig (Elt F)) :=
  [ StableHlo.unary main_v6 main_v19 (broadcastInDim S8192x1 ![0] bcast_S8192_S8192x1_0 : (⟨S8192, .i32⟩ : BufTy).Contents (Elt F) → (⟨S8192x1, .i32⟩ : BufTy).Contents (Elt F)),
    StableHlo.nullary main_call1_c (constantI S_ 32 0#32),
    StableHlo.unary main_call1_c main_call1_v0 ((broadcastInDim S8192x1 ![] bcast_S_S8192x1) : (⟨S_, .i32⟩ : BufTy).Contents (Elt F) → (⟨S8192x1, .i32⟩ : BufTy).Contents (Elt F)),
    StableHlo.binary main_v19 main_call1_v0 main_call1_v1 ((cmpi .slt) : (⟨S8192x1, .i32⟩ : BufTy).Contents (Elt F) → (⟨S8192x1, .i32⟩ : BufTy).Contents (Elt F) → (⟨S8192x1, .i1⟩ : BufTy).Contents (Elt F)),
    StableHlo.nullary main_call1_c_0 (constantI S_ 32 4096#32),
    StableHlo.unary main_call1_c_0 main_call1_v2 ((broadcastInDim S8192x1 ![] bcast_S_S8192x1) : (⟨S_, .i32⟩ : BufTy).Contents (Elt F) → (⟨S8192x1, .i32⟩ : BufTy).Contents (Elt F)),
    StableHlo.binary main_v19 main_call1_v2 main_call1_v3 (addi : (⟨S8192x1, .i32⟩ : BufTy).Contents (Elt F) → (⟨S8192x1, .i32⟩ : BufTy).Contents (Elt F) → (⟨S8192x1, .i32⟩ : BufTy).Contents (Elt F)),
    StableHlo.ternary main_call1_v1 main_call1_v3 main_v19 main_call1_v4 (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)),
    StableHlo.reshape main_call1_v4 main_call1_v5 (rfl : (.i32 : EltTy) = .i32) shapeCasts_S8192x1_S8192x1x1,
    StableHlo.nullary main_call1_c_1 (constantI S1 32 4095#32),
    StableHlo.nullary main_call1_c_2 (constantI S_ 32 0#32),
    StableHlo.unary main_call1_c_2 main_call1_v6 ((broadcastInDim S8192x1x1 ![] bcast_S_S8192x1x1) : (⟨S_, .i32⟩ : BufTy).Contents (Elt F) → (⟨S8192x1x1, .i32⟩ : BufTy).Contents (Elt F)),
    StableHlo.binary main_call1_v5 main_call1_v6 main_call1_v7 ((cmpi .sge) : (⟨S8192x1x1, .i32⟩ : BufTy).Contents (Elt F) → (⟨S8192x1x1, .i32⟩ : BufTy).Contents (Elt F) → (⟨S8192x1x1, .i1⟩ : BufTy).Contents (Elt F)),
    StableHlo.unary main_call1_c_1 main_call1_v8 ((broadcastInDim S1x1x1 ![2] bcast_S1_S1x1x1_2) : (⟨S1, .i32⟩ : BufTy).Contents (Elt F) → (⟨S1x1x1, .i32⟩ : BufTy).Contents (Elt F)),
    StableHlo.unary main_call1_v8 main_call1_v9 ((broadcastInDim S8192x1x1 ![0, 1, 2] bcast_S1x1x1_S8192x1x1_0_1_2) : (⟨S1x1x1, .i32⟩ : BufTy).Contents (Elt F) → (⟨S8192x1x1, .i32⟩ : BufTy).Contents (Elt F)),
    StableHlo.binary main_call1_v5 main_call1_v9 main_call1_v10 ((cmpi .sle) : (⟨S8192x1x1, .i32⟩ : BufTy).Contents (Elt F) → (⟨S8192x1x1, .i32⟩ : BufTy).Contents (Elt F) → (⟨S8192x1x1, .i1⟩ : BufTy).Contents (Elt F)),
    StableHlo.binary main_call1_v7 main_call1_v10 main_call1_v11 (andi : (⟨S8192x1x1, .i1⟩ : BufTy).Contents (Elt F) → (⟨S8192x1x1, .i1⟩ : BufTy).Contents (Elt F) → (⟨S8192x1x1, .i1⟩ : BufTy).Contents (Elt F)),
    StableHlo.nullary main_call1_c_3 (constantI S_ 1 1#1),
    StableHlo.binary main_call1_v11 main_call1_c_3 main_call1_v12 ((fun x v => Host.reduce IntOp.andi x v reducesTo_S8192x1x1_S8192x1_d2 h_S_) : (⟨S8192x1x1, .i1⟩ : BufTy).Contents (Elt F) → (⟨S_, .i1⟩ : BufTy).Contents (Elt F) → (⟨S8192x1, .i1⟩ : BufTy).Contents (Elt F)),
    StableHlo.binary main_v5 main_call1_v5 main_call1_v13 ((fun x i => Host.gather gather_S8192x4096_S8192x1x1_S8192x1_n_1_0_0_1_2_11 x i) : (⟨S8192x4096, .f32⟩ : BufTy).Contents (Elt F) → (⟨S8192x1x1, .i32⟩ : BufTy).Contents (Elt F) → (⟨S8192x1, .f32⟩ : BufTy).Contents (Elt F)),
    StableHlo.nullary main_call1_cst (constant S_ .f32 0x7FC00000#32),
    StableHlo.unary main_call1_cst main_call1_v14 ((broadcastInDim S8192x1 ![] bcast_S_S8192x1) : (⟨S_, .f32⟩ : BufTy).Contents (Elt F) → (⟨S8192x1, .f32⟩ : BufTy).Contents (Elt F)),
    StableHlo.ternary main_call1_v12 main_call1_v13 main_call1_v14 main_v20 (select : (⟨S8192x1, .i1⟩ : BufTy).Contents (Elt F) → (⟨S8192x1, .f32⟩ : BufTy).Contents (Elt F) → (⟨S8192x1, .f32⟩ : BufTy).Contents (Elt F) → (⟨S8192x1, .f32⟩ : BufTy).Contents (Elt F)),
    StableHlo.reshape main_v20 main_v21 (rfl : (.f32 : EltTy) = .f32) shapeCasts_S8192x1_S8192 ]

/-- The operations that compute the mean loss. -/
abbrev ops3 : List (HloOp τ sig (Elt F)) :=
  [ StableHlo.binary main_v18 main_v21 main_v22 (subf : (⟨S8192, .f32⟩ : BufTy).Contents (Elt F) → (⟨S8192, .f32⟩ : BufTy).Contents (Elt F) → (⟨S8192, .f32⟩ : BufTy).Contents (Elt F)),
    StableHlo.nullary main_cst_3 (constant S_ .f32 0x00000000#32),
    StableHlo.binary main_v22 main_cst_3 main_v23 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_4 (constant S_ .f32 0x46000000#32),
    StableHlo.binary main_v23 main_cst_4 main_v24 (Host.divf : (⟨S_, .f32⟩ : BufTy).Contents (Elt F) → (⟨S_, .f32⟩ : BufTy).Contents (Elt F) → (⟨S_, .f32⟩ : BufTy).Contents (Elt F)),
    StableHlo.nullary main_cst_5 (constant S_ .f32 0x3F800000#32),
    StableHlo.binary main_cst_5 main_v24 main_v25 (mulf : (⟨S_, .f32⟩ : BufTy).Contents (Elt F) → (⟨S_, .f32⟩ : BufTy).Contents (Elt F) → (⟨S_, .f32⟩ : BufTy).Contents (Elt F)) ]

/-- The operations that compute the share of rows whose largest entry is at the code. -/
abbrev ops4 : List (HloOp τ sig (Elt F)) :=
  [ StableHlo.nullary main_call2_v0 (iotaInDim S8192x4096 32 1),
    StableHlo.nullary main_call2_cst (constant S_ .f32 0xFF800000#32),
    StableHlo.nullary main_call2_c (constantI S_ 32 0#32),
    StableHlo.quaternary main_v5 main_call2_v0 main_call2_cst main_call2_c main_call2_v1_0 ((fun x y u v j => (Host.argReduce reducer_argmax_f32_i32 x y u v reducesTo_S8192x4096_S8192_d1 h_S_ j).1) : (⟨S8192x4096, .f32⟩ : BufTy).Contents (Elt F) → (⟨S8192x4096, .i32⟩ : BufTy).Contents (Elt F) → (⟨S_, .f32⟩ : BufTy).Contents (Elt F) → (⟨S_, .i32⟩ : BufTy).Contents (Elt F) → (⟨S8192, .f32⟩ : BufTy).Contents (Elt F)),
    StableHlo.quaternary main_v5 main_call2_v0 main_call2_cst main_call2_c main_v26 ((fun x y u v j => (Host.argReduce reducer_argmax_f32_i32 x y u v reducesTo_S8192x4096_S8192_d1 h_S_ j).2) : (⟨S8192x4096, .f32⟩ : BufTy).Contents (Elt F) → (⟨S8192x4096, .i32⟩ : BufTy).Contents (Elt F) → (⟨S_, .f32⟩ : BufTy).Contents (Elt F) → (⟨S_, .i32⟩ : BufTy).Contents (Elt F) → (⟨S8192, .i32⟩ : BufTy).Contents (Elt F)),
    StableHlo.binary main_v26 main_v6 main_v27 (cmpi .eq : (⟨S8192, .i32⟩ : BufTy).Contents (Elt F) → (⟨S8192, .i32⟩ : BufTy).Contents (Elt F) → (⟨S8192, .i1⟩ : BufTy).Contents (Elt F)),
    StableHlo.unary main_v27 main_v28 (uitofp .f32 : (⟨S8192, .i1⟩ : BufTy).Contents (Elt F) → (⟨S8192, .f32⟩ : BufTy).Contents (Elt F)),
    StableHlo.nullary main_cst_6 (constant S_ .f32 0x00000000#32),
    StableHlo.binary main_v28 main_cst_6 main_v29 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_7 (constant S_ .f32 0x46000000#32),
    StableHlo.binary main_v29 main_cst_7 main_v30 (Host.divf : (⟨S_, .f32⟩ : BufTy).Contents (Elt F) → (⟨S_, .f32⟩ : BufTy).Contents (Elt F) → (⟨S_, .f32⟩ : BufTy).Contents (Elt F)) ]

/-- The operations that compute the share of rows whose code is among the first five. -/
abbrev ops5 : List (HloOp τ sig (Elt F)) :=
  [ StableHlo.unary main_v5 main_values ((fun x => (Host.topK S8192x5 1 (FloatOps.cmpfTotal .gt) x sliceFits_S8192x4096_S8192x5).1) : (⟨S8192x4096, .f32⟩ : BufTy).Contents (Elt F) → (⟨S8192x5, .f32⟩ : BufTy).Contents (Elt F)),
    StableHlo.unary main_v5 main_indices ((fun x => (Host.topK S8192x5 1 (FloatOps.cmpfTotal .gt) x sliceFits_S8192x4096_S8192x5).2) : (⟨S8192x4096, .f32⟩ : BufTy).Contents (Elt F) → (⟨S8192x5, .i32⟩ : BufTy).Contents (Elt F)),
    StableHlo.unary main_v6 main_v31 (broadcastInDim S8192x1 ![0] bcast_S8192_S8192x1_0 : (⟨S8192, .i32⟩ : BufTy).Contents (Elt F) → (⟨S8192x1, .i32⟩ : BufTy).Contents (Elt F)),
    StableHlo.unary main_v31 main_v32 (broadcastInDim S8192x5 ![0, 1] bcast_S8192x1_S8192x5_0_1 : (⟨S8192x1, .i32⟩ : BufTy).Contents (Elt F) → (⟨S8192x5, .i32⟩ : BufTy).Contents (Elt F)),
    StableHlo.binary main_indices main_v32 main_v33 (cmpi .eq : (⟨S8192x5, .i32⟩ : BufTy).Contents (Elt F) → (⟨S8192x5, .i32⟩ : BufTy).Contents (Elt F) → (⟨S8192x5, .i1⟩ : BufTy).Contents (Elt F)),
    StableHlo.nullary main_c (constantI S_ 1 0#1),
    StableHlo.binary main_v33 main_c main_v34 ((fun x v => Host.reduce IntOp.ori x v reducesTo_S8192x5_S8192_d1 h_S_) : (⟨S8192x5, .i1⟩ : BufTy).Contents (Elt F) → (⟨S_, .i1⟩ : BufTy).Contents (Elt F) → (⟨S8192, .i1⟩ : BufTy).Contents (Elt F)),
    StableHlo.unary main_v34 main_v35 (uitofp .f32 : (⟨S8192, .i1⟩ : BufTy).Contents (Elt F) → (⟨S8192, .f32⟩ : BufTy).Contents (Elt F)),
    StableHlo.nullary main_cst_8 (constant S_ .f32 0x00000000#32),
    StableHlo.binary main_v35 main_cst_8 main_v36 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_9 (constant S_ .f32 0x46000000#32),
    StableHlo.binary main_v36 main_cst_9 main_v37 (Host.divf : (⟨S_, .f32⟩ : BufTy).Contents (Elt F) → (⟨S_, .f32⟩ : BufTy).Contents (Elt F) → (⟨S_, .f32⟩ : BufTy).Contents (Elt F)) ]

/-- The operations that compute the share of rows whose code is among the first ten. -/
abbrev ops6 : List (HloOp τ sig (Elt F)) :=
  [ StableHlo.unary main_v5 main_values_10 ((fun x => (Host.topK S8192x10 1 (FloatOps.cmpfTotal .gt) x sliceFits_S8192x4096_S8192x10).1) : (⟨S8192x4096, .f32⟩ : BufTy).Contents (Elt F) → (⟨S8192x10, .f32⟩ : BufTy).Contents (Elt F)),
    StableHlo.unary main_v5 main_indices_11 ((fun x => (Host.topK S8192x10 1 (FloatOps.cmpfTotal .gt) x sliceFits_S8192x4096_S8192x10).2) : (⟨S8192x4096, .f32⟩ : BufTy).Contents (Elt F) → (⟨S8192x10, .i32⟩ : BufTy).Contents (Elt F)),
    StableHlo.unary main_v6 main_v38 (broadcastInDim S8192x1 ![0] bcast_S8192_S8192x1_0 : (⟨S8192, .i32⟩ : BufTy).Contents (Elt F) → (⟨S8192x1, .i32⟩ : BufTy).Contents (Elt F)),
    StableHlo.unary main_v38 main_v39 (broadcastInDim S8192x10 ![0, 1] bcast_S8192x1_S8192x10_0_1 : (⟨S8192x1, .i32⟩ : BufTy).Contents (Elt F) → (⟨S8192x10, .i32⟩ : BufTy).Contents (Elt F)),
    StableHlo.binary main_indices_11 main_v39 main_v40 (cmpi .eq : (⟨S8192x10, .i32⟩ : BufTy).Contents (Elt F) → (⟨S8192x10, .i32⟩ : BufTy).Contents (Elt F) → (⟨S8192x10, .i1⟩ : BufTy).Contents (Elt F)),
    StableHlo.nullary main_c_12 (constantI S_ 1 0#1),
    StableHlo.binary main_v40 main_c_12 main_v41 ((fun x v => Host.reduce IntOp.ori x v reducesTo_S8192x10_S8192_d1 h_S_) : (⟨S8192x10, .i1⟩ : BufTy).Contents (Elt F) → (⟨S_, .i1⟩ : BufTy).Contents (Elt F) → (⟨S8192, .i1⟩ : BufTy).Contents (Elt F)),
    StableHlo.unary main_v41 main_v42 (uitofp .f32 : (⟨S8192, .i1⟩ : BufTy).Contents (Elt F) → (⟨S8192, .f32⟩ : BufTy).Contents (Elt F)),
    StableHlo.nullary main_cst_13 (constant S_ .f32 0x00000000#32),
    StableHlo.binary main_v42 main_cst_13 main_v43 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_14 (constant S_ .f32 0x46000000#32),
    StableHlo.binary main_v43 main_cst_14 main_v44 (Host.divf : (⟨S_, .f32⟩ : BufTy).Contents (Elt F) → (⟨S_, .f32⟩ : BufTy).Contents (Elt F) → (⟨S_, .f32⟩ : BufTy).Contents (Elt F)) ]

/-- All of @main's operations, in order. -/
abbrev ops : List (HloOp τ sig (Elt F)) := ops0 ++ (ops1 ++ (ops2 ++ (ops3 ++ (ops4 ++ (ops5 ++ ops6)))))

/-- The references that window 0 writes. -/
abbrev wr0 : List (Ref sig .tc) := [main_v0, main_v1, main_v2, main_v3, main_v4, main_v5, main_v6]

/-- Window 0 leaves every other reference as it was. -/
theorem keep0 (V : Valuation τ sig (Elt F)) {r : Ref sig .tc} (hr : r ∉ wr0) :
    after (ops0 (F := F)) V (Proc.devRef .tc r) = V (Proc.devRef .tc r) :=
  after_of_writes_sub (W := wr0) _ _ (forall_writes_sub_of_map rfl) hr

/-- The references that window 1 writes. -/
abbrev wr1 : List (Ref sig .tc) := [main_cst, main_v7, main_v8, main_cst_0, main_v9, main_v10, main_cst_1, main_call0_v0, main_call0_v1, main_v11, main_v12, main_v13, main_v14, main_v15, main_cst_2, main_v16, main_v17, main_v18]

/-- Window 1 leaves every other reference as it was. -/
theorem keep1 (V : Valuation τ sig (Elt F)) {r : Ref sig .tc} (hr : r ∉ wr1) :
    after (ops1 (F := F)) V (Proc.devRef .tc r) = V (Proc.devRef .tc r) :=
  after_of_writes_sub (W := wr1) _ _ (forall_writes_sub_of_map rfl) hr

/-- The references that window 2 writes. -/
abbrev wr2 : List (Ref sig .tc) := [main_v19, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v20, main_v21]

/-- Window 2 leaves every other reference as it was. -/
theorem keep2 (V : Valuation τ sig (Elt F)) {r : Ref sig .tc} (hr : r ∉ wr2) :
    after (ops2 (F := F)) V (Proc.devRef .tc r) = V (Proc.devRef .tc r) :=
  after_of_writes_sub (W := wr2) _ _ (forall_writes_sub_of_map rfl) hr

/-- The references that window 3 writes. -/
abbrev wr3 : List (Ref sig .tc) := [main_v22, main_cst_3, main_v23, main_cst_4, main_v24, main_cst_5, main_v25]

/-- Window 3 leaves every other reference as it was. -/
theorem keep3 (V : Valuation τ sig (Elt F)) {r : Ref sig .tc} (hr : r ∉ wr3) :
    after (ops3 (F := F)) V (Proc.devRef .tc r) = V (Proc.devRef .tc r) :=
  after_of_writes_sub (W := wr3) _ _ (forall_writes_sub_of_map rfl) hr

/-- The references that window 4 writes. -/
abbrev wr4 : List (Ref sig .tc) := [main_call2_v0, main_call2_cst, main_call2_c, main_call2_v1_0, main_v26, main_v27, main_v28, main_cst_6, main_v29, main_cst_7, main_v30]

/-- Window 4 leaves every other reference as it was. -/
theorem keep4 (V : Valuation τ sig (Elt F)) {r : Ref sig .tc} (hr : r ∉ wr4) :
    after (ops4 (F := F)) V (Proc.devRef .tc r) = V (Proc.devRef .tc r) :=
  after_of_writes_sub (W := wr4) _ _ (forall_writes_sub_of_map rfl) hr

/-- The references that window 5 writes. -/
abbrev wr5 : List (Ref sig .tc) := [main_values, main_indices, main_v31, main_v32, main_v33, main_c, main_v34, main_v35, main_cst_8, main_v36, main_cst_9, main_v37]

/-- Window 5 leaves every other reference as it was. -/
theorem keep5 (V : Valuation τ sig (Elt F)) {r : Ref sig .tc} (hr : r ∉ wr5) :
    after (ops5 (F := F)) V (Proc.devRef .tc r) = V (Proc.devRef .tc r) :=
  after_of_writes_sub (W := wr5) _ _ (forall_writes_sub_of_map rfl) hr

/-- The references that window 6 writes. -/
abbrev wr6 : List (Ref sig .tc) := [main_values_10, main_indices_11, main_v38, main_v39, main_v40, main_c_12, main_v41, main_v42, main_cst_13, main_v43, main_cst_14, main_v44]

/-- Window 6 leaves every other reference as it was. -/
theorem keep6 (V : Valuation τ sig (Elt F)) {r : Ref sig .tc} (hr : r ∉ wr6) :
    after (ops6 (F := F)) V (Proc.devRef .tc r) = V (Proc.devRef .tc r) :=
  after_of_writes_sub (W := wr6) _ _ (forall_writes_sub_of_map rfl) hr

/-! ## What each window computes -/

/-- The logits, one row per token: the projected embedding plus the bias. -/
def logits (x : FVec F S2x64x4096 .f32) (w : FVec F S4096x64 .f32) (b : FVec F S4096 .f32) : FVec F S8192x4096 .f32 :=
  shapeCast S8192x4096 (addf (Host.dotGeneral dot_S2x4096x64_S4096x64_S2x4096x4096_2_1_01_0_n_n none
      (transpose S2x4096x64 [0, 2, 1] x transposes_S2x64x4096_S2x4096x64_0_2_1) w)
    (broadcastInDim S2x4096x4096 ![0, 1, 2] bcast_S1x1x4096_S2x4096x4096_0_1_2
      (broadcastInDim S1x1x4096 ![2] bcast_S4096_S1x1x4096_2 b))) shapeCasts_S2x4096x4096_S8192x4096

/-- The codes, one per row. -/
def rows (k : IVec S2x4096 32) : IVec S8192 32 := shapeCast S8192 k shapeCasts_S2x4096_S8192

/-- Every row's largest entry. -/
def rowMax (l : FVec F S8192x4096 .f32) : FVec F S8192 .f32 :=
  Host.reduce FloatOps.maximumf l (constant S_ .f32 0xFF800000#32) reducesTo_S8192x4096_S8192_d1 h_S_

/-- What a row is shifted by: its largest entry where that is finite, zero elsewhere. -/
def shift (l : FVec F S8192x4096 .f32) : FVec F S8192 .f32 :=
  select (cmpf .olt (Host.absf (rowMax l)) (broadcastInDim S8192 ![] bcast_S_S8192 (constant S_ .f32 0x7F800000#32)))
    (rowMax l) (broadcastInDim S8192 ![] bcast_S_S8192 (id (constant S_ .f32 0x00000000#32)))

/-- Every row's log of its sum of exponentials, computed from the shifted row. -/
def lse (l : FVec F S8192x4096 .f32) : FVec F S8192 .f32 :=
  addf (Host.log (Host.reduceAdd (Host.exp (subf l (broadcastInDim S8192x4096 ![0, 1] bcast_S8192x1_S8192x4096_0_1
      (broadcastInDim S8192x1 ![0] bcast_S8192_S8192x1_0 (shift l))))) (constant S_ .f32 0x00000000#32)
    reducesTo_S8192x4096_S8192_d1 h_S_)) (shift l)

/-- The codes as a column. -/
def col (k : IVec S8192 32) : IVec S8192x1 32 := broadcastInDim S8192x1 ![0] bcast_S8192_S8192x1_0 k

/-- The codes as gather indices: a negative one has the row length added. -/
def wrapped (k : IVec S8192 32) : IVec S8192x1x1 32 :=
  shapeCast S8192x1x1 (select (cmpi .slt (col k) (broadcastInDim S8192x1 ![] bcast_S_S8192x1 (constantI S_ 32 0#32)))
    (addi (col k) (broadcastInDim S8192x1 ![] bcast_S_S8192x1 (constantI S_ 32 4096#32))) (col k)) shapeCasts_S8192x1_S8192x1x1

/-- Whether each gather index is inside the row. -/
def inside (k : IVec S8192 32) : IVec S8192x1 1 :=
  Host.reduce IntOp.andi (andi (cmpi .sge (wrapped k) (broadcastInDim S8192x1x1 ![] bcast_S_S8192x1x1 (constantI S_ 32 0#32)))
      (cmpi .sle (wrapped k) (broadcastInDim S8192x1x1 ![0, 1, 2] bcast_S1x1x1_S8192x1x1_0_1_2
        (broadcastInDim S1x1x1 ![2] bcast_S1_S1x1x1_2 (constantI S1 32 4095#32)))))
    (constantI S_ 1 1#1) reducesTo_S8192x1x1_S8192x1_d2 h_S_

/-- Every row's entry at its code. -/
def picked (l : FVec F S8192x4096 .f32) (k : IVec S8192 32) : FVec F S8192 .f32 :=
  shapeCast S8192 (select (inside k)
    (Host.gather gather_S8192x4096_S8192x1x1_S8192x1_n_1_0_0_1_2_11 l (wrapped k))
    (broadcastInDim S8192x1 ![] bcast_S_S8192x1 (constant S_ .f32 0x7FC00000#32))) shapeCasts_S8192x1_S8192

/-- The mean of a value per row. -/
def mean (v : FVec F S8192 .f32) : FVec F S_ .f32 :=
  Host.divf (Host.reduceAdd v (constant S_ .f32 0x00000000#32) reducesTo_S8192_S_d0 h_S_) (constant S_ .f32 0x46000000#32)

/-- One times a scalar. -/
def weighted (v : FVec F S_ .f32) : FVec F S_ .f32 := mulf (constant S_ .f32 0x3F800000#32) v

/-- Where every row's largest entry is. -/
def best (l : FVec F S8192x4096 .f32) : IVec S8192 32 :=
  fun j => (Host.argReduce reducer_argmax_f32_i32 l (iotaInDim S8192x4096 32 1) (constant S_ .f32 0xFF800000#32)
    (constantI S_ 32 0#32) reducesTo_S8192x4096_S8192_d1 h_S_ j).2

/-- Whether each row's largest entry is at its code, as zero or one. -/
def hit1 (l : FVec F S8192x4096 .f32) (k : IVec S8192 32) : FVec F S8192 .f32 := uitofp .f32 (cmpi .eq (best l) k)

/-- Whether each row's code is among its first five indices, as zero or one. -/
def hit5 (l : FVec F S8192x4096 .f32) (k : IVec S8192 32) : FVec F S8192 .f32 :=
  uitofp .f32 (Host.reduce IntOp.ori (cmpi .eq (Host.topK S8192x5 1 (FloatOps.cmpfTotal .gt) l sliceFits_S8192x4096_S8192x5).2
    (broadcastInDim S8192x5 ![0, 1] bcast_S8192x1_S8192x5_0_1 (col k))) (constantI S_ 1 0#1) reducesTo_S8192x5_S8192_d1 h_S_)

/-- Whether each row's code is among its first ten indices, as zero or one. -/
def hit10 (l : FVec F S8192x4096 .f32) (k : IVec S8192 32) : FVec F S8192 .f32 :=
  uitofp .f32 (Host.reduce IntOp.ori (cmpi .eq (Host.topK S8192x10 1 (FloatOps.cmpfTotal .gt) l sliceFits_S8192x4096_S8192x10).2
    (broadcastInDim S8192x10 ![0, 1] bcast_S8192x1_S8192x10_0_1 (col k))) (constantI S_ 1 0#1) reducesTo_S8192x10_S8192_d1 h_S_)

set_option maxRecDepth 8192
set_option maxHeartbeats 4000000

/-- Window 0 leaves the logits. -/
theorem win0_logits (V : Valuation τ sig (Elt F)) : after (ops0 (F := F)) V (Proc.devRef .tc main_v5) =
    logits (V (Proc.devRef .tc main_arg0)) (V (Proc.devRef .tc main_arg3)) (V (Proc.devRef .tc main_arg4)) := by
  after_results_simp
  rfl

/-- Window 0 leaves the codes as rows. -/
theorem win0_rows (V : Valuation τ sig (Elt F)) : after (ops0 (F := F)) V (Proc.devRef .tc main_v6) =
    rows (V (Proc.devRef .tc main_arg1)) := by
  after_results_simp
  rfl

/-- Window 1 leaves the log of the sum of exponentials. -/
theorem win1_lse (V : Valuation τ sig (Elt F)) : after (ops1 (F := F)) V (Proc.devRef .tc main_v18) =
    lse (V (Proc.devRef .tc main_v5)) := by
  after_results_simp
  rfl

/-- Window 2 leaves every row's entry at its code. -/
theorem win2_picked (V : Valuation τ sig (Elt F)) : after (ops2 (F := F)) V (Proc.devRef .tc main_v21) =
    picked (V (Proc.devRef .tc main_v5)) (V (Proc.devRef .tc main_v6)) := by
  after_results_simp
  rfl

/-- Window 3 leaves the mean of the differences. -/
theorem win3_loss (V : Valuation τ sig (Elt F)) : after (ops3 (F := F)) V (Proc.devRef .tc main_v25) =
    weighted (mean (subf (V (Proc.devRef .tc main_v18)) (V (Proc.devRef .tc main_v21)))) := by
  after_results_simp
  rfl

/-- Window 4 leaves the share of rows won by the code. -/
theorem win4_acc (V : Valuation τ sig (Elt F)) : after (ops4 (F := F)) V (Proc.devRef .tc main_v30) =
    mean (hit1 (V (Proc.devRef .tc main_v5)) (V (Proc.devRef .tc main_v6))) := by
  after_results_simp
  rfl

/-- Window 5 leaves the share of rows with the code in the first five. -/
theorem win5_top5 (V : Valuation τ sig (Elt F)) : after (ops5 (F := F)) V (Proc.devRef .tc main_v37) =
    mean (hit5 (V (Proc.devRef .tc main_v5)) (V (Proc.devRef .tc main_v6))) := by
  after_results_simp
  rfl

/-- Window 6 leaves the share of rows with the code in the first ten. -/
theorem win6_top10 (V : Valuation τ sig (Elt F)) : after (ops6 (F := F)) V (Proc.devRef .tc main_v44) =
    mean (hit10 (V (Proc.devRef .tc main_v5)) (V (Proc.devRef .tc main_v6))) := by
  after_results_simp
  rfl

/-! ## The run -/

set_option maxRecDepth 65536 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem sub0 : (ops0 (F := F)).Forall fun op => op.bufs ⊆ tcRefs τ sig := by simp
theorem fresh0 : (ops0 (F := F)).Forall fun op => op.fresh = ∅ := forall_fresh_of_map rfl
theorem sub1 : (ops1 (F := F)).Forall fun op => op.bufs ⊆ tcRefs τ sig := by simp
theorem fresh1 : (ops1 (F := F)).Forall fun op => op.fresh = ∅ := forall_fresh_of_map rfl
theorem sub2 : (ops2 (F := F)).Forall fun op => op.bufs ⊆ tcRefs τ sig := by simp
theorem fresh2 : (ops2 (F := F)).Forall fun op => op.fresh = ∅ := forall_fresh_of_map rfl
theorem sub3 : (ops3 (F := F)).Forall fun op => op.bufs ⊆ tcRefs τ sig := by simp
theorem fresh3 : (ops3 (F := F)).Forall fun op => op.fresh = ∅ := forall_fresh_of_map rfl
theorem sub4 : (ops4 (F := F)).Forall fun op => op.bufs ⊆ tcRefs τ sig := by simp
theorem fresh4 : (ops4 (F := F)).Forall fun op => op.fresh = ∅ := forall_fresh_of_map rfl
theorem sub5 : (ops5 (F := F)).Forall fun op => op.bufs ⊆ tcRefs τ sig := by simp
theorem fresh5 : (ops5 (F := F)).Forall fun op => op.fresh = ∅ := forall_fresh_of_map rfl
theorem sub6 : (ops6 (F := F)).Forall fun op => op.bufs ⊆ tcRefs τ sig := by simp
theorem fresh6 : (ops6 (F := F)).Forall fun op => op.fresh = ∅ := forall_fresh_of_map rfl

theorem ops_sub : (ops (F := F)).Forall fun op => op.bufs ⊆ tcRefs τ sig := by
  simp only [ops, List.forall_append]
  exact ⟨sub0, sub1, sub2, sub3, sub4, sub5, sub6⟩

theorem ops_fresh : (ops (F := F)).Forall fun op => op.fresh = ∅ := by
  simp only [ops, List.forall_append]
  exact ⟨fresh0, fresh1, fresh2, fresh3, fresh4, fresh5, fresh6⟩

/-- On every device, from any memory with zero counters: every weakly fair execution of @main terminates, the four results
    end at the named functions of the arguments and the arguments end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      let l := logits (m ((c.tc : Thread nD τ).loc main_arg0)) (m ((c.tc : Thread nD τ).loc main_arg3)) (m ((c.tc : Thread nD τ).loc main_arg4))
      let k := rows (m ((c.tc : Thread nD τ).loc main_arg1))
      (r.2.mem ((c.tc : Thread nD τ).loc main_v25) = weighted (mean (subf (lse l) (picked l k)))
      ∧ r.2.mem ((c.tc : Thread nD τ).loc main_v30) = mean (hit1 l k)
      ∧ r.2.mem ((c.tc : Thread nD τ).loc main_v37) = mean (hit5 l k)
      ∧ r.2.mem ((c.tc : Thread nD τ).loc main_v44) = mean (hit10 l k))
      ∧ (∀ a ∈ [main_arg0, main_arg1, main_arg2, main_arg3, main_arg4], r.2.mem ((c.tc : Thread nD τ).loc a) = m ((c.tc : Thread nD τ).loc a)) := by
  refine θ_run_mono (run_seq scopedRefs_eq scopedSems_eq defs main (fun _ => ops) main_eq (fun _ => ops_sub) m ρ
    (fun _ => List.forall_iff_forall_mem.mp ops_fresh)) fun r h c => ⟨⟨?_, ?_, ?_, ?_⟩, ?_⟩
  all_goals first | intro a ha; rw [h c a] | rw [h c]
  all_goals simp only [ops, after_append]
  · rw [keep6 _ (by decide), keep5 _ (by decide), keep4 _ (by decide), win3_loss, win2_picked, keep2 _ (by decide), win1_lse,
      keep1 _ (by decide), keep1 _ (by decide), win0_logits, win0_rows]
  · rw [keep6 _ (by decide), keep5 _ (by decide), win4_acc, keep3 _ (by decide), keep3 _ (by decide), keep2 _ (by decide),
      keep2 _ (by decide), keep1 _ (by decide), keep1 _ (by decide), win0_logits, win0_rows]
  · rw [keep6 _ (by decide), win5_top5, keep4 _ (by decide), keep4 _ (by decide), keep3 _ (by decide), keep3 _ (by decide),
      keep2 _ (by decide), keep2 _ (by decide), keep1 _ (by decide), keep1 _ (by decide), win0_logits, win0_rows]
  · rw [win6_top10, keep5 _ (by decide), keep5 _ (by decide), keep4 _ (by decide), keep4 _ (by decide), keep3 _ (by decide),
      keep3 _ (by decide), keep2 _ (by decide), keep2 _ (by decide), keep1 _ (by decide), keep1 _ (by decide), win0_logits, win0_rows]
  · have hk : ∀ i ∈ [wr0, wr1, wr2, wr3, wr4, wr5, wr6], a ∉ i := by
      revert a; decide
    rw [keep6 _ (hk wr6 (by simp)), keep5 _ (hk wr5 (by simp)), keep4 _ (hk wr4 (by simp)), keep3 _ (hk wr3 (by simp)),
      keep2 _ (hk wr2 (by simp)), keep1 _ (hk wr1 (by simp)), keep0 _ (hk wr0 (by simp))]

end Cert.ReferenceIdeal.Run

end
-- ==== Proof.RefValue.lean ====
/-
  What the reference's named functions are, row by row, over the extended reals.
-/
module

public import proofs.«01_k».proof.Proof.RefRun
public import proofs.«01_k».proof.Proof.Words
public import Idealize.ShloMosaic.Lib.IdealHost

@[expose] public section

set_option maxRecDepth 16384

namespace Cert.ReferenceIdeal.Run

open Idealize.ShloMosaic
open Cert.ReferenceIdeal Cert.ReferenceIdeal.Facts₀
open Cert.Row (word_bot word_top word_one word_rows class_toInt class_inj eq_bit)

variable [Cert.ReferenceIdeal.Facts]

/-! ## The logits and the log of the sum of exponentials -/

/-- With a zero bias a logit is the sum over the channels of the products. -/
theorem logits_apply (x : FVec Ideal S2x64x4096 .f32) (w : FVec Ideal S4096x64 .f32) (b : FVec Ideal S4096 .f32)
    (hb : ∀ v, b (ix1 v) = 0) (r : Fin 8192) (v : Fin 4096) :
    logits x w b (ix2 r v) = ∑ c : Fin 64, x (ix3 ⟨r.val / 4096, by omega⟩ c ⟨r.val % 4096, by omega⟩) * w (ix2 v c) := by
  pointwise [logits]
  rw [hb, add_zero]

/-- A row's largest entry. -/
theorem rowMax_apply (l : FVec Ideal S8192x4096 .f32) (r : Fin 8192) :
    rowMax l (ix1 r) = Finset.univ.fold max ⊥ fun v => l (ix2 r v) := by
  pointwise [rowMax]
  rw [word_bot]

/-- A select on the bit one is its first operand. -/
theorem sel_one {α : Type} (a b : α) : Scalar.select 1#1 a b = a := rfl
/-- A select on the bit zero is its second operand. -/
theorem sel_zero {α : Type} (a b : α) : Scalar.select 0#1 a b = b := rfl

/-- A value's shift: the value where its magnitude is below infinity, else zero. -/
theorem shift_of (m : FVec Ideal S8192 .f32) (j : S8192.Idx) :
    select (cmpf .olt (Host.absf m) (broadcastInDim S8192 ![] bcast_S_S8192 (constant S_ .f32 0x7F800000#32)))
      m (broadcastInDim S8192 ![] bcast_S_S8192 (id (constant S_ .f32 0x00000000#32))) j = Row.shift (m j) := by
  show Scalar.select (Ideal.cmp .olt (max (m j) (-m j)) (Ideal.ofBits .f32 0x7F800000#32)) (m j)
    (Ideal.ofBits .f32 0x00000000#32) = _
  rw [word_top, Ideal.ofBits_zero_f32]
  unfold Row.shift Ideal.cmp
  by_cases h : max (m j) (-m j) < ⊤
  · rw [if_pos h]; simp only [h, decide_true]; exact sel_one _ _
  · rw [if_neg h]; simp only [h, decide_false]; exact sel_zero _ _

/-- What a row is shifted by. -/
theorem shift_apply (l : FVec Ideal S8192x4096 .f32) (r : Fin 8192) :
    shift l (ix1 r) = Row.shift (rowMax l (ix1 r)) := shift_of (rowMax l) (ix1 r)

/-- A row's log of its sum of exponentials. -/
theorem lse_apply (l : FVec Ideal S8192x4096 .f32) (r : Fin 8192) :
    lse l (ix1 r) = Row.lse fun v => l (ix2 r v) := by
  pointwise [lse]
  rw [shift_apply]
  exact Row.lse_shift (fun v => l (ix2 r v)) _ (rowMax_apply l r)

/-! ## The entry at the code -/

/-- A row's gather index is its code, where that is a class. -/
theorem wrapped_apply (k : IVec S8192 32) (r : Fin 8192) (c : Fin 4096) (hk : k (ix1 r) = BitVec.ofNat 32 c.val) :
    wrapped k (ix3 r 0 0) = BitVec.ofNat 32 c.val := by
  pointwise [wrapped, col]
  rw [hk]
  have h : IntOp.cmpi .slt (BitVec.ofNat 32 c.val) 0#32 = 0#1 := by
    show BitVec.ofBool (BitVec.slt _ _) = _
    rw [BitVec.slt_eq_decide, class_toInt]
    have : ¬((c.val : ℤ) < (0#32).toInt) := by simp
    rw [decide_eq_false this]; rfl
  rw [h]; rfl

/-- The gather reads the row's entry at the gather index. -/
theorem gather_apply (l : FVec Ideal S8192x4096 .f32) (ix : IVec S8192x1x1 32) (r : Fin 8192) (c : Fin 4096)
    (hk : ix (ix3 r 0 0) = BitVec.ofNat 32 c.val) :
    Host.gather gather_S8192x4096_S8192x1x1_S8192x1_n_1_0_0_1_2_11 l ix (ix2 r 0) = l (ix2 r c) := by
  unfold Host.gather
  congr 1
  funext a
  refine Fin.ext ?_
  match a with
  | ⟨0, _⟩ =>
    show GatherDims.start gather_S8192x4096_S8192x1x1_S8192x1_n_1_0_0_1_2_11 (ix2 r 0) ix 0
      + GatherDims.batchCoord gather_S8192x4096_S8192x1x1_S8192x1_n_1_0_0_1_2_11 (ix2 r 0) 0
      + GatherDims.offCoord gather_S8192x4096_S8192x1x1_S8192x1_n_1_0_0_1_2_11 (ix2 r 0) 0 = r.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  | ⟨1, _⟩ =>
    show GatherDims.start gather_S8192x4096_S8192x1x1_S8192x1_n_1_0_0_1_2_11 (ix2 r 0) ix 1
      + GatherDims.batchCoord gather_S8192x4096_S8192x1x1_S8192x1_n_1_0_0_1_2_11 (ix2 r 0) 1
      + GatherDims.offCoord gather_S8192x4096_S8192x1x1_S8192x1_n_1_0_0_1_2_11 (ix2 r 0) 1 = c.val
    rw [GatherDims.batchCoord_eq_zero _ _ _ (by decide),
      GatherDims.offCoord_eq_zero _ _ _ (fun h => ((GatherDims.mem_sKept _ _).mp h).1 (List.mem_singleton.mpr rfl)),
      Nat.add_zero]
    unfold GatherDims.start
    rw [dif_pos (show (1 : Fin 2) ∈ gather_S8192x4096_S8192x1x1_S8192x1_n_1_0_0_1_2_11.startIndexMap from
      List.mem_singleton.mpr rfl)]
    have hsi : ∀ h, gather_S8192x4096_S8192x1x1_S8192x1_n_1_0_0_1_2_11.siIdx (ix2 r 0)
        ⟨List.idxOf (1 : Fin 2) gather_S8192x4096_S8192x1x1_S8192x1_n_1_0_0_1_2_11.startIndexMap, h⟩ = ix3 r 0 0 := by
      intro h
      funext b; refine Fin.ext ?_
      match b with
      | ⟨0, _⟩ => rfl
      | ⟨1, _⟩ => rfl
      | ⟨2, _⟩ => rfl
    rw [hsi, hk, class_toInt]
    show min (c.val) 4095 = c.val
    omega

/-- A row's picked entry is the one at its code. -/
theorem picked_apply (l : FVec Ideal S8192x4096 .f32) (k : IVec S8192 32) (r : Fin 8192) (c : Fin 4096)
    (hk : k (ix1 r) = BitVec.ofNat 32 c.val) : picked l k (ix1 r) = l (ix2 r c) := by
  pointwise [picked]
  rw [gather_apply l _ r c (wrapped_apply k r c hk)]
  have hin : inside k (ix2 r 0) = 1#1 := by
    pointwise [inside]
    rw [show (Finset.univ : Finset (Fin 1)) = {0} from rfl, Finset.fold_singleton, wrapped_apply k r c hk]
    have h1 : IntOp.cmpi .sge (BitVec.ofNat 32 c.val) 0#32 = 1#1 := by
      show BitVec.ofBool (BitVec.sle _ _) = _
      rw [BitVec.sle_eq_decide, class_toInt]
      rw [decide_eq_true (by simp)]; rfl
    have h2 : IntOp.cmpi .sle (BitVec.ofNat 32 c.val) 4095#32 = 1#1 := by
      show BitVec.ofBool (BitVec.sle _ _) = _
      rw [BitVec.sle_eq_decide, class_toInt]
      have : (c.val : ℤ) ≤ (4095#32).toInt := by
        have := c.isLt
        rw [show (4095#32).toInt = 4095 from rfl]; omega
      rw [decide_eq_true this]; rfl
    rw [h1, h2]
    rfl
  rw [hin]; rfl

/-! ## The means -/

/-- The mean is the sum over the rows divided by their number. -/
theorem mean_apply (v : FVec Ideal S8192 .f32) (j : S_.Idx) :
    mean v j = Ideal.div (∑ r, v (ix1 r)) ((8192 : ℝ) : EReal) := by
  obtain rfl : j = ix0 := funext fun a => a.elim0
  pointwise [mean]
  rw [word_rows]

/-- One times a scalar is the scalar. -/
theorem weighted_eq (v : FVec Ideal S_ .f32) : weighted v = v := by
  funext j
  show Ideal.ofBits .f32 0x3F800000#32 * v j = v j
  rw [word_one, one_mul]

end Cert.ReferenceIdeal.Run

end
-- ==== Proof.RefHits.lean ====
/-
  Which rows the reference counts as hits, by the rank of the row's code.
-/
module

public import proofs.«01_k».proof.Proof.RefValue

@[expose] public section

set_option maxRecDepth 16384

namespace Cert.ReferenceIdeal.Run

open Idealize.ShloMosaic
open Cert.ReferenceIdeal Cert.ReferenceIdeal.Facts₀
open Cert.Row (word_bot word_top word_one word_rows class_toInt class_inj eq_bit)

variable [Cert.ReferenceIdeal.Facts]

/-! ## The hits -/

/-- A one-bit word as a number: one where it is set. -/
theorem bit_value (b : BitVec 1) (p : Prop) [Decidable p] (h : b = 1#1 ↔ p) :
    (FloatOps.uitofp (F := Ideal) .f32 b : EReal) = Row.ind p := by
  unfold Row.ind
  show ((b.toNat : ℝ) : EReal) = _
  rcases (by decide : ∀ b : BitVec 1, b = 0#1 ∨ b = 1#1) b with rfl | rfl
  · rw [if_neg (fun hp => absurd (h.mpr hp) (by decide))]; simp
  · rw [if_pos (h.mp rfl)]; simp

/-- The reference's arg-max step is the running first maximum. -/
theorem reducer_eq : reducer_argmax_f32_i32 (F := Ideal) = Row.firstMax := by
  funext a b
  unfold reducer_argmax_f32_i32 Row.firstMax
  obtain ⟨a1, a2⟩ := a
  obtain ⟨b1, b2⟩ := b
  show (Scalar.select (IntOp.ori (BitVec.ofBool (decide (b1 < a1))) (BitVec.ofBool (decide (a1 ≠ a1)))) a1 b1,
    Scalar.select (IntOp.ori (IntOp.ori (BitVec.ofBool (decide (b1 < a1))) (BitVec.ofBool (decide (a1 ≠ a1))))
      (IntOp.andi (BitVec.ofBool (decide (a1 = b1))) (BitVec.ofBool (BitVec.slt a2 b2)))) a2 b2) = _
  rw [BitVec.slt_eq_decide]
  by_cases h1 : b1 < a1
  · have e1 : ∀ x : BitVec 1, IntOp.ori (BitVec.ofBool true) x = 1#1 := by decide
    have e2 : ∀ x : BitVec 1, IntOp.ori 1#1 x = 1#1 := by decide
    rw [decide_eq_true h1, e1, e2, if_pos (Or.inl h1)]; rfl
  · by_cases h2 : a1 = b1
    · subst h2
      by_cases h3 : a2.toInt < b2.toInt <;> simp [h3, IntOp.ori, IntOp.andi, Scalar.select]
    · simp [h1, h2, IntOp.ori, IntOp.andi, Scalar.select]

/-- What a pair reduction folds over: the pairs at the source indices that drop to the result index. -/
theorem mem_fiber {s t : Shape} {axes : List (Fin s.rank)} {α β : Type} (x : s.Idx → α) (y : s.Idx → β)
    (h : s.ReducesTo axes t) (j : t.Idx) (p : α × β) :
    p ∈ Host.argReduceFiber x y h j ↔ ∃ i, h.drop i = j ∧ p = (x i, y i) := by
  unfold Host.argReduceFiber
  simp only [List.mem_map, List.mem_filter, List.mem_finRange, true_and, decide_eq_true_eq]
  constructor
  · rintro ⟨m, hm, rfl⟩
    exact ⟨_, hm, rfl⟩
  · rintro ⟨i, hi, rfl⟩
    exact ⟨s.rowMajor i, by rw [Equiv.symm_apply_apply]; exact hi, by rw [Equiv.symm_apply_apply]⟩

/-- A logit's index drops to its row. -/
theorem drop_row (y : S8192x4096.Idx) (r : Fin 8192) : reducesTo_S8192x4096_S8192_d1.drop y = ix1 r ↔ y 0 = r := by
  have hv : (reducesTo_S8192x4096_S8192_d1.drop y 0).val = (y 0).val :=
    Shape.ReducesTo.drop_apply_val_of_eq _ y 0 0
  constructor
  · intro e
    exact Fin.ext (hv.symm.trans (congrArg (fun z : S8192.Idx => (z 0).val) e))
  · intro e
    rw [eq_ix1 (reducesTo_S8192x4096_S8192_d1.drop y)]
    exact congrArg ix1 (Fin.ext (hv.trans (congrArg Fin.val e)))

/-- The pairs of a row: its values with their classes. -/
theorem mem_row (l : FVec Ideal S8192x4096 .f32) (r : Fin 8192) (p : EReal × BitVec 32) :
    p ∈ Host.argReduceFiber l (iotaInDim S8192x4096 32 1) reducesTo_S8192x4096_S8192_d1 (ix1 r)
      ↔ ∃ v : Fin 4096, p = (l (ix2 r v), BitVec.ofNat 32 v.val) := by
  rw [mem_fiber]
  constructor
  · rintro ⟨y, hy, rfl⟩
    have h0 := (drop_row y r).mp hy
    refine ⟨y 1, Prod.ext ?_ rfl⟩
    show l y = l (ix2 r (y 1))
    rw [← h0]; exact congrArg l (eq_ix2 y)
  · rintro ⟨v, rfl⟩
    exact ⟨ix2 r v, (drop_row _ r).mpr rfl, rfl⟩

/-- The classes a pair reduction by the running first maximum gives, started at (−∞, 0) over the pairs (value, class)
    of a row: the reduction gives a class exactly where that class's rank is zero. -/
theorem first_of_rows {s t u : Shape} {axes : List (Fin s.rank)} (f : EReal × BitVec 32 → EReal × BitVec 32 → EReal × BitVec 32)
    (hf : f = Row.firstMax) (x : FVec Ideal s .f32) (y : s.Idx → BitVec 32) (ix : FVec Ideal u .f32) (iy : u.Idx → BitVec 32)
    (h : s.ReducesTo axes t) (hu : 0 < u.numel) (hz : (ix (Shape.Idx.first hu), iy (Shape.Idx.first hu)) = ((⊥ : EReal), 0#32))
    (g : t.Idx → BitVec 32) (hg : g = fun j => (Host.argReduce (F := Ideal) (φ := .f32) f x y ix iy h hu j).2) (j : t.Idx)
    {n : ℕ} (hn : n ≤ 4096) (hpos : 0 < n) (a : Fin n → EReal)
    (hmem : ∀ p, p ∈ Host.argReduceFiber x y h j ↔ ∃ v, p = (a v, BitVec.ofNat 32 v.val)) (c : Fin n) :
    g j = BitVec.ofNat 32 c.val ↔ Row.rank a c = 0 := by
  subst hg hf
  show (Host.argReduce (F := Ideal) (φ := .f32) Row.firstMax x y ix iy h hu j).2 = _ ↔ _
  rw [Ideal.argReduce_eq_reduce2, Host.reduce2_eq_foldl_fiber, hz]
  exact Row.firstMax_row (hn.trans (by norm_num)) hpos a _ hmem c

/-- The word pair the reference's arg-max starts from is minus infinity and class zero. -/
theorem best_start : ((constant S_ .f32 0xFF800000#32 : FVec Ideal S_ .f32) (Shape.Idx.first h_S_),
    constantI S_ 32 0#32 (Shape.Idx.first h_S_)) = ((⊥ : EReal), 0#32) :=
  Prod.ext word_bot rfl

/-- Where every row's largest entry is, spelled out. -/
theorem best_eq (l : FVec Ideal S8192x4096 .f32) : best (F := Ideal) l = fun j => (Host.argReduce (F := Ideal) (φ := .f32)
    reducer_argmax_f32_i32 l (iotaInDim S8192x4096 32 1) (constant S_ .f32 0xFF800000#32)
    (constantI S_ 32 0#32) reducesTo_S8192x4096_S8192_d1 h_S_ j).2 := by
  delta best
  exact Eq.refl _

/-- There is a class. -/
theorem four_pos : 0 < 4096 := by norm_num

/-- The row's first maximum is at a class exactly when that class's rank is zero, the row given with its length. -/
theorem best_row (l : FVec Ideal S8192x4096 .f32) (r : Fin 8192) {n : ℕ} (hn : n ≤ 4096) (h0 : 0 < n) (c : Fin n)
    (a : Fin n → EReal)
    (h : ∀ p, p ∈ Host.argReduceFiber l (iotaInDim S8192x4096 32 1) reducesTo_S8192x4096_S8192_d1 (ix1 r)
      ↔ ∃ v : Fin n, p = (a v, BitVec.ofNat 32 v.val)) :
    best l (ix1 r) = BitVec.ofNat 32 c.val ↔ Row.rank a c = 0 := by
  exact first_of_rows _ reducer_eq _ _ _ _ _ _ best_start (best l) (best_eq l) (ix1 r) hn h0 a h c

/-- The row's first maximum is at the code exactly when the code's rank is zero. -/
theorem best_apply (l : FVec Ideal S8192x4096 .f32) (r : Fin 8192) (c : Fin 4096) :
    best l (ix1 r) = BitVec.ofNat 32 c.val ↔ Row.rank (fun v => l (ix2 r v)) c = 0 :=
  best_row l r le_rfl four_pos c (fun v => l (ix2 r v)) (mem_row l r)

open Classical in
/-- Whether the row's largest entry is at its code. -/
theorem hit1_apply (l : FVec Ideal S8192x4096 .f32) (k : IVec S8192 32) (r : Fin 8192) (c : Fin 4096)
    (hk : k (ix1 r) = BitVec.ofNat 32 c.val) : hit1 l k (ix1 r) = Row.ind (Row.rank (fun v => l (ix2 r v)) c = 0) := by
  have e : IntOp.cmpi .eq (best l (ix1 r)) (k (ix1 r)) = 1#1 ↔ Row.rank (fun v => l (ix2 r v)) c = 0 := by
    rw [eq_bit, hk, best_apply]
  unfold hit1
  generalize best l = g at e ⊢
  exact bit_value _ _ e

/-- An or over finitely many bits is set exactly when one of them is. -/
theorem fold_ori {n : ℕ} (f : Fin n → BitVec 1) : Finset.univ.fold IntOp.ori (0#1) f = 1#1 ↔ ∃ i, f i = 1#1 := by
  classical
  have h : ∀ s : Finset (Fin n), s.fold IntOp.ori (0#1) f = 1#1 ↔ ∃ i ∈ s, f i = 1#1 := fun s => by
    induction s using Finset.induction_on with
    | empty => simp
    | insert i s hi ih =>
      rw [Finset.fold_insert hi]
      have : ∀ x y : BitVec 1, IntOp.ori x y = 1#1 ↔ x = 1#1 ∨ y = 1#1 := by decide
      rw [this, ih]
      simp
  rw [h]; simp

/-- The index a top-k gives at a place: the position the stable sort of the fiber puts there. -/
theorem topK_at {s t : Shape} {α : Type} (d : Fin s.rank) (gt : α → α → BitVec 1) (x : s.Idx → α)
    (h : s.Slices (fun _ => 0) t) (j : t.Idx) (J : s.Idx) (hJ : ∀ a, (J a).val = (j (a.cast h.1.symm)).val) :
    (Host.topK t d.val gt x h).2 j
      = BitVec.ofNat 32 (sortedFrom (fun k k' => gt (x (J.along d k)) (x (J.along d k')) == 1#1) (J d)).val := by
  have e : (fun a => ⟨0 + (j (a.cast h.1.symm)).val,
      Nat.lt_of_lt_of_le (Nat.add_lt_add_left (j _).isLt _) (h.2 a)⟩ : s.Idx) = J :=
    funext fun a => Fin.ext (by rw [hJ a]; exact Nat.zero_add _)
  unfold Host.topK Host.sort2 extractStridedSlice iotaInDim
  simp only [dif_pos d.isLt, e]
  simp [Shape.Idx.along]

/-- The index at a place of the descending sort of a row is the placed class. -/
theorem topK_apply {R n K : ℕ} (hK : K ≤ n) (l : FVec Ideal ⟨2, ![R, n]⟩ .f32)
    (h : (⟨2, ![R, n]⟩ : Shape).Slices (fun _ => 0) ⟨2, ![R, K]⟩) (r : Fin R) (p : Fin K) :
    (Host.topK ⟨2, ![R, K]⟩ 1 (FloatOps.cmpfTotal (F := Ideal) (φ := .f32) .gt) l h).2 (ix2 r p)
      = BitVec.ofNat 32 (Row.placed (fun v => l (ix2 r v)) (p.castLE hK)).val := by
  have halong : ∀ k q : Fin n, (ix2 r q : (⟨2, ![R, n]⟩ : Shape).Idx).along 1 k = ix2 r k := fun k q => by
    funext a
    match a with
    | ⟨0, _⟩ => rfl
    | ⟨1, _⟩ => rfl
  have hs : (fun k k' : Fin n => FloatOps.cmpfTotal (F := Ideal) (φ := .f32) CmpDirection.gt
        (l ((ix2 r (p.castLE hK) : (⟨2, ![R, n]⟩ : Shape).Idx).along 1 k))
        (l ((ix2 r (p.castLE hK) : (⟨2, ![R, n]⟩ : Shape).Idx).along 1 k')) == 1#1)
      = fun k k' => decide (l (ix2 r k') < l (ix2 r k)) := by
    funext k k'
    rw [halong, halong, Ideal.cmpfTotal_def]
    unfold Ideal.cmp
    have hb : ∀ b : Bool, (BitVec.ofBool b == 1#1) = b := by decide
    exact hb _
  have e := congrArg (fun g : Fin n → Fin n → Bool => BitVec.ofNat 32 (sortedFrom g (p.castLE hK)).val) hs
  refine Eq.trans (topK_at (s := ⟨2, ![R, n]⟩) (t := ⟨2, ![R, K]⟩) 1 _ l h (ix2 r p) (ix2 r (p.castLE hK)) fun a => ?_) e
  match a with
  | ⟨0, _⟩ => rfl
  | ⟨1, _⟩ => rfl

/-- A code is among the first indices of a row's sort exactly when its rank is below their number. -/
theorem among {K : ℕ} (hK : K ≤ 4096) (a : Fin 4096 → EReal) (f : Fin K → BitVec 32) (c : Fin 4096)
    (hf : ∀ p, f p = BitVec.ofNat 32 (Row.placed a (p.castLE hK)).val) :
    Finset.univ.fold IntOp.ori (0#1) (fun p => IntOp.cmpi .eq (f p) (BitVec.ofNat 32 c.val)) = 1#1 ↔ Row.rank a c < K := by
  rw [fold_ori, ← Row.placed_lt_iff]
  constructor
  · rintro ⟨p, hp⟩
    rw [eq_bit, hf, class_inj] at hp
    exact ⟨p.castLE hK, p.isLt, hp⟩
  · rintro ⟨p, hp, e⟩
    refine ⟨⟨p.val, hp⟩, ?_⟩
    rw [eq_bit, hf, class_inj]
    exact e

open Classical in
/-- Whether the row's code is among its first five indices. -/
theorem hit5_apply (l : FVec Ideal S8192x4096 .f32) (k : IVec S8192 32) (r : Fin 8192) (c : Fin 4096)
    (hk : k (ix1 r) = BitVec.ofNat 32 c.val) : hit5 l k (ix1 r) = Row.ind (Row.rank (fun v => l (ix2 r v)) c < 5) := by
  pointwise [hit5, col]
  rw [hk]
  exact bit_value _ _ (among (by norm_num) _ _ c fun p => topK_apply (by norm_num) l _ r p)

open Classical in
/-- Whether the row's code is among its first ten indices. -/
theorem hit10_apply (l : FVec Ideal S8192x4096 .f32) (k : IVec S8192 32) (r : Fin 8192) (c : Fin 4096)
    (hk : k (ix1 r) = BitVec.ofNat 32 c.val) : hit10 l k (ix1 r) = Row.ind (Row.rank (fun v => l (ix2 r v)) c < 10) := by
  pointwise [hit10, col]
  rw [hk]
  exact bit_value _ _ (among (by norm_num) _ _ c fun p => topK_apply (by norm_num) l _ r p)

end Cert.ReferenceIdeal.Run

end
-- ==== Proof.Agree.lean ====
/-
  The kernel's four results against the reference's, under the precondition.
-/
module

public import proofs.«01_k».proof.Proof.KerValue
public import proofs.«01_k».proof.Proof.RefRun
public import proofs.«01_k».proof.Proof.RefHits
public import proofs.«01_k».proof.Pre_as_drawn
public import Idealize.ShloMosaic.Lib.ReduceAll

@[expose] public section

set_option maxRecDepth 16384

noncomputable section

/-! ## The precondition, read -/

namespace Cert.Pre_as_drawn

open Idealize.ShloMosaic

/-- The stated side conditions hold at these shapes. -/
theorem facts : Facts where
  bcast_S_S2x4096 := by decide
  reducesTo_S2x4096_S_d0_1 := by decide
  h_S_ := by decide
  bcast_S_S4096 := by decide
  reducesTo_S4096_S_d0 := by decide

variable [Facts]
open Facts

/-- A word from zero up to 4096, read signed, is a class's. -/
theorem class_of (b : BitVec 32) (h0 : IntOp.cmpi .sge b 0#32 = 1#1) (h1 : IntOp.cmpi .slt b 4096#32 = 1#1) :
    ∃ c : Fin 4096, b = BitVec.ofNat 32 c.val := by
  have g0 : (0#32).toInt ≤ b.toInt := IntOp.cmpi_sge.1 h0
  have g1 : b.toInt < (4096#32).toInt := IntOp.cmpi_slt.1 h1
  have e0 : (0#32).toInt = 0 := by decide
  have e1 : (4096#32).toInt = 4096 := by decide
  rw [e0] at g0
  rw [e1] at g1
  refine ⟨⟨b.toInt.toNat, by omega⟩, ?_⟩
  apply BitVec.eq_of_toInt_eq
  rw [Row.class_toInt ⟨b.toInt.toNat, by omega⟩]
  exact (Int.toNat_of_nonneg g0).symm

variable {x : FVec Ideal S2x64x4096 .f32} {k : IVec S2x4096 32} {v w : FVec Ideal S4096x64 .f32} {b : FVec Ideal S4096 .f32}

/-- The precondition's two halves. -/
theorem halves (h : fn x k v w b = fun _ => 1#1) :
    (∀ i, ∃ c : Fin 4096, k i = BitVec.ofNat 32 c.val) ∧ ∀ i, b i = 0 := by
  have : Subsingleton S_.Idx := ⟨fun a b => funext fun d => d.elim0⟩
  obtain ⟨hk, hb⟩ := IntOp.andi_eq_one.1 (congrFun h ix0)
  refine ⟨fun i => ?_, fun i => ?_⟩
  · obtain ⟨h0, h1⟩ := IntOp.andi_eq_one.1 (Host.reduce_andi_all _ _ _ _ _ hk i)
    exact class_of _ h0 h1
  · have e := Host.reduce_andi_all _ _ _ _ _ hb i
    have e' : BitVec.ofBool (decide (b i = Ideal.ofBits .f32 0x00000000#32)) = 1#1 := e
    rw [(Row.decide_bit _).mp e']
    simp [Ideal.ofBits, Ideal.ieee]

/-- Under the precondition every row's code names a class, and the offsets are zero. -/
theorem reads (h : fn x k v w b = fun _ => 1#1) : (∃ κ, Row.Names k κ) ∧ ∀ u, b (ix1 u) = 0 := by
  obtain ⟨hk, hb⟩ := halves h
  choose κ hκ using hk
  exact ⟨⟨fun r => κ _, fun r => hκ _⟩, fun u => hb _⟩

end Cert.Pre_as_drawn

/-! ## The reference's results -/

namespace Cert.ReferenceIdeal.Run

open Idealize.ShloMosaic
open Cert.ReferenceIdeal Cert.ReferenceIdeal.Facts₀
open Cert.Row (logit Names average)

variable [Cert.ReferenceIdeal.Facts]
/-- A vector's mean, from its entries. -/
theorem mean_of (v : FVec Ideal S8192 .f32) (g : Fin 8192 → EReal) (h : ∀ r, v (ix1 r) = g r) : mean v = fun _ => average g := by
  funext j
  rw [mean_apply, average]
  simp only [h]

variable (x : FVec Ideal S2x64x4096 .f32) (k : IVec S2x4096 32) (w : FVec Ideal S4096x64 .f32) (b : FVec Ideal S4096 .f32)
variable (hb : ∀ v, b (ix1 v) = 0) (κ : Fin 8192 → Fin 4096) (hκ : Names k κ)

include hb in
/-- A row of the reference's logits. -/
theorem row_logits (r : Fin 8192) : (fun v => logits x w b (ix2 r v)) = logit x w r :=
  funext fun v => logits_apply x w b hb r v

include hκ in
/-- A row's code in the reference's list names the row's class. -/
theorem row_code (r : Fin 8192) : rows k (ix1 r) = BitVec.ofNat 32 (κ r).val := by
  refine Eq.trans ?_ (hκ r)
  pointwise [rows]

include hb hκ in
/-- The first result is the mean of the rows' losses. -/
theorem loss_mean : weighted (mean (subf (lse (logits x w b)) (picked (logits x w b) (rows k))))
    = fun _ => average fun r => Row.lse (logit x w r) - logit x w r (κ r) := by
  rw [weighted_eq]
  refine mean_of _ _ fun r => ?_
  show lse (logits x w b) (ix1 r) - picked (logits x w b) (rows k) (ix1 r) = _
  rw [lse_apply, picked_apply _ _ r (κ r) (row_code k κ hκ r), row_logits x w b hb r, logits_apply x w b hb]
  rfl

open Classical in
include hb hκ in
/-- The second result is the share of the rows of rank zero. -/
theorem first_mean : mean (hit1 (logits x w b) (rows k))
    = fun _ => average fun r => Row.ind (Row.rank (logit x w r) (κ r) = 0) := by
  refine mean_of _ _ fun r => ?_
  rw [hit1_apply _ _ r (κ r) (row_code k κ hκ r), row_logits x w b hb r]

open Classical in
include hb hκ in
/-- The third result is the share of the rows of rank below five. -/
theorem five_mean : mean (hit5 (logits x w b) (rows k))
    = fun _ => average fun r => Row.ind (Row.rank (logit x w r) (κ r) < 5) := by
  refine mean_of _ _ fun r => ?_
  rw [hit5_apply _ _ r (κ r) (row_code k κ hκ r), row_logits x w b hb r]

open Classical in
include hb hκ in
/-- The fourth result is the share of the rows of rank below ten. -/
theorem ten_mean : mean (hit10 (logits x w b) (rows k))
    = fun _ => average fun r => Row.ind (Row.rank (logit x w r) (κ r) < 10) := by
  refine mean_of _ _ fun r => ?_
  rw [hit10_apply _ _ r (κ r) (row_code k κ hκ r), row_logits x w b hb r]

end Cert.ReferenceIdeal.Run

end
-- ==== Proof.lean ====
/-
  The proof of `Cert.Claim`: both runs end with their arguments and counters as the frames say, and the kernel's four
  results are the reference's over the extended reals.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Agree
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem

/-- The reference ends with its arguments as they were and every counter at zero. -/
theorem reference_frame : Cert.quiescent_ReferenceIdeal (hReferenceIdeal := Cert.ReferenceIdeal.Gen.facts) := fun m ρ _ =>
  haveI := Cert.ReferenceIdeal.Gen.facts
  θ_run_mono (Cert.ReferenceIdeal.Run.run m ρ) fun r h =>
    ⟨fun c => ⟨(h c).2 _ (by simp), (h c).2 _ (by simp), (h c).2 _ (by simp), (h c).2 _ (by simp), (h c).2 _ (by simp)⟩,
      sem_eq_zero_of_no_sems rfl _⟩

/-- The kernel's results are the reference's, over the extended reals. -/
theorem results_agree : Cert.algebraic_KernelIdeal_ReferenceIdeal_pre_as_drawn (hKernelIdeal := Cert.KernelIdeal.Gen.facts)
    (hReferenceIdeal := Cert.ReferenceIdeal.Gen.facts) (hPre_as_drawn := Cert.Pre_as_drawn.facts) := by
  intro m ρ m' ρ' hpre hagree
  haveI := Cert.ReferenceIdeal.Gen.facts
  haveI := Cert.Pre_as_drawn.facts
  have hκ := fun c => (Cert.Pre_as_drawn.reads (hpre c)).1
  have hb := fun c => (Cert.Pre_as_drawn.reads (hpre c)).2
  choose κ hκ using hκ
  refine ⟨_, _, _, _, θ_run_mono (θ_run_and (Cert.KernelIdeal.Out.run m ρ) (Cert.KernelIdeal.Gen.unchanged m ρ)) fun r h c =>
      ⟨(h.1 c).1, (h.1 c).2.1, (h.1 c).2.2.1, (h.1 c).2.2.2, (h.2 c).1, (h.2 c).2.1, (h.2 c).2.2.1, (h.2 c).2.2.2.1, (h.2 c).2.2.2.2⟩,
    θ_run_mono (Cert.ReferenceIdeal.Run.run m' ρ') fun r h c => ?_⟩
  obtain ⟨⟨h0, h1, h2, h3⟩, hargs⟩ := h c
  obtain ⟨e0, e1, _, e3, e4⟩ := hagree c
  rw [e0, e1, e3, e4] at h0 h1 h2 h3
  refine ⟨h0.trans ?_, h1.trans ?_, h2.trans ?_, h3.trans ?_, hargs _ (by simp), hargs _ (by simp), hargs _ (by simp),
    hargs _ (by simp), hargs _ (by simp)⟩
  · exact (Cert.ReferenceIdeal.Run.loss_mean _ _ _ _ (hb c) (κ c) (hκ c)).trans
      (Cert.KernelIdeal.Out.loss_mean m c (κ c) (hκ c)).symm
  · exact (Cert.ReferenceIdeal.Run.first_mean _ _ _ _ (hb c) (κ c) (hκ c)).trans
      (Cert.KernelIdeal.Out.first_mean m c (κ c) (hκ c)).symm
  · exact (Cert.ReferenceIdeal.Run.five_mean _ _ _ _ (hb c) (κ c) (hκ c)).trans
      (Cert.KernelIdeal.Out.five_mean m c (κ c) (hκ c)).symm
  · exact (Cert.ReferenceIdeal.Run.ten_mean _ _ _ _ (hb c) (κ c) (hκ c)).trans
      (Cert.KernelIdeal.Out.ten_mean m c (κ c) (hκ c)).symm

/-- Every claim, with the side conditions that the programs and the precondition state. -/
theorem claim : Cert.Claim :=
  ⟨Cert.Kernel.Gen.facts, Cert.KernelIdeal.Gen.facts, Cert.ReferenceIdeal.Gen.facts, Cert.Pre_as_drawn.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, results_agree⟩

end Cert.Proof

end

end
